-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v47_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v47_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41_0) = v0 c
          ∧ r.2.mem ((c.tc : Thread Cert.ReferenceIdeal.nD Cert.ReferenceIdeal.τ).loc Cert.ReferenceIdeal.main_v41_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v41_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x4096 : Shape := ⟨3, ![8, 1, 4096]⟩
abbrev S8x1x4x128 : Shape := ⟨4, ![8, 1, 4, 128]⟩
abbrev S8x8192x4x128 : Shape := ⟨4, ![8, 8192, 4, 128]⟩
abbrev S4 : Shape := ⟨1, ![4]⟩
abbrev S254 : Shape := ⟨1, ![254]⟩
abbrev S254x1 : Shape := ⟨2, ![254, 1]⟩
abbrev S1x4 : Shape := ⟨2, ![1, 4]⟩
abbrev S254x4 : Shape := ⟨2, ![254, 4]⟩
abbrev S_ : Shape := ⟨0, ![]⟩
abbrev S4x4 : Shape := ⟨2, ![4, 4]⟩
abbrev S4x1x4x1 : Shape := ⟨4, ![4, 1, 4, 1]⟩
abbrev S4x8x4x128 : Shape := ⟨4, ![4, 8, 4, 128]⟩
abbrev S4x32x128 : Shape := ⟨3, ![4, 32, 128]⟩
abbrev S8x32x128 : Shape := ⟨3, ![8, 32, 128]⟩
abbrev S8x4x128 : Shape := ⟨3, ![8, 4, 128]⟩
abbrev S8x32768x128 : Shape := ⟨3, ![8, 32768, 128]⟩
abbrev S1x32x128 : Shape := ⟨3, ![1, 32, 128]⟩
abbrev S1x4x128 : Shape := ⟨3, ![1, 4, 128]⟩
abbrev S1x32768x128 : Shape := ⟨3, ![1, 32768, 128]⟩
abbrev S16x16384 : Shape := ⟨2, ![16, 16384]⟩
abbrev S32x128 : Shape := ⟨2, ![32, 128]⟩
abbrev S16x128 : Shape := ⟨2, ![16, 128]⟩
abbrev S4x128 : Shape := ⟨2, ![4, 128]⟩
abbrev S4x1x128 : Shape := ⟨3, ![4, 1, 128]⟩
abbrev S4x8x128 : Shape := ⟨3, ![4, 8, 128]⟩
abbrev S32 : Shape := ⟨1, ![32]⟩
abbrev S32x1 : Shape := ⟨2, ![32, 1]⟩
abbrev S32x256 : Shape := ⟨2, ![32, 256]⟩
abbrev S64x256 : Shape := ⟨2, ![64, 256]⟩
abbrev S8x1024 : Shape := ⟨2, ![8, 1024]⟩
abbrev S8x128 : Shape := ⟨2, ![8, 128]⟩
abbrev S1x1024x128 : Shape := ⟨3, ![1, 1024, 128]⟩
abbrev S1024x128 : Shape := ⟨2, ![1024, 128]⟩
abbrev S64x16x128 : Shape := ⟨3, ![64, 16, 128]⟩
abbrev S1x16x128 : Shape := ⟨3, ![1, 16, 128]⟩
abbrev S1024x256 : Shape := ⟨2, ![1024, 256]⟩
abbrev S64x1024 : Shape := ⟨2, ![64, 1024]⟩
abbrev S16x1024 : Shape := ⟨2, ![16, 1024]⟩
abbrev S8 : Shape := ⟨1, ![8]⟩
abbrev S8x1 : Shape := ⟨2, ![8, 1]⟩

abbrev nBuf : Space → Nat
  | .hbm => 83
  | .vmem => 18
  | .smem => 0
  | _ => 0

abbrev bufTy : (tb : Table) → Fin (tcTables nBuf tb) → BufTy
  | .hbm, ⟨0, _⟩ => ⟨S8x1x4096, .bf16⟩
  | .hbm, ⟨1, _⟩ => ⟨S8x1x4x128, .bf16⟩
  | .hbm, ⟨2, _⟩ => ⟨S8x1x4x128, .bf16⟩
  | .hbm, ⟨3, _⟩ => ⟨S8x8192x4x128, .fp8e4m3⟩
  | .hbm, ⟨4, _⟩ => ⟨S4, .f32⟩
  | .hbm, ⟨5, _⟩ => ⟨S8x8192x4x128, .fp8e4m3⟩
  | .hbm, ⟨6, _⟩ => ⟨S4, .f32⟩
  | .hbm, ⟨7, _⟩ => ⟨S254, .f32⟩
  | .hbm, ⟨8, _⟩ => ⟨S254x1, .f32⟩
  | .hbm, ⟨9, _⟩ => ⟨S254, .f32⟩
  | .hbm, ⟨10, _⟩ => ⟨S254x1, .f32⟩
  | .hbm, ⟨11, _⟩ => ⟨S254, .f32⟩
  | .hbm, ⟨12, _⟩ => ⟨S254x1, .f32⟩
  | .hbm, ⟨13, _⟩ => ⟨S254, .f32⟩
  | .hbm, ⟨14, _⟩ => ⟨S254x1, .f32⟩
  | .hbm, ⟨15, _⟩ => ⟨S4, .f32⟩
  | .hbm, ⟨16, _⟩ => ⟨S1x4, .f32⟩
  | .hbm, ⟨17, _⟩ => ⟨S254x4, .f32⟩
  | .hbm, ⟨18, _⟩ => ⟨S254x4, .f32⟩
  | .hbm, ⟨19, _⟩ => ⟨S254x4, .i1⟩
  | .hbm, ⟨20, _⟩ => ⟨S_, .f32⟩
  | .hbm, ⟨21, _⟩ => ⟨S_, .f32⟩
  | .hbm, ⟨22, _⟩ => ⟨S254x4, .f32⟩
  | .hbm, ⟨23, _⟩ => ⟨S254x4, .f32⟩
  | .hbm, ⟨24, _⟩ => ⟨S254x4, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .i1⟩
  | .hbm, ⟨30, _⟩ => ⟨S_, .f32⟩
  | .hbm, ⟨31, _⟩ => ⟨S4, .f32⟩
  | .hbm, ⟨32, _⟩ => ⟨S4, .i1⟩
  | .hbm, ⟨33, _⟩ => ⟨S4, .i1⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S1x4, .f32⟩
  | .hbm, ⟨43, _⟩ => ⟨S254x4, .f32⟩
  | .hbm, ⟨44, _⟩ => ⟨S254x4, .f32⟩
  | .hbm, ⟨45, _⟩ => ⟨S254x4, .i1⟩
  | .hbm, ⟨46, _⟩ => ⟨S_, .f32⟩
  | .hbm, ⟨47, _⟩ => ⟨S_, .f32⟩
  | .hbm, ⟨48, _⟩ => ⟨S254x4, .f32⟩
  | .hbm, ⟨49, _⟩ => ⟨S254x4, .f32⟩
  | .hbm, ⟨50, _⟩ => ⟨S254x4, .f32⟩
  | .hbm, ⟨51, _⟩ => ⟨S_, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .i1⟩
  | .hbm, ⟨56, _⟩ => ⟨S_, .f32⟩
  | .hbm, ⟨57, _⟩ => ⟨S4, .f32⟩
  | .hbm, ⟨58, _⟩ => ⟨S4, .i1⟩
  | .hbm, ⟨59, _⟩ => ⟨S4, .i1⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S1x4, .f32⟩
  | .hbm, ⟨68, _⟩ => ⟨S1x4, .f32⟩
  | .hbm, ⟨69, _⟩ => ⟨S1x4, .f32⟩
  | .hbm, ⟨70, _⟩ => ⟨S1x4, .f32⟩
  | .hbm, ⟨71, _⟩ => ⟨S4x4, .f32⟩
  | .hbm, ⟨72, _⟩ => ⟨S4x1x4x1, .f32⟩
  | .hbm, ⟨73, _⟩ => ⟨S4x8x4x128, .f32⟩
  | .hbm, ⟨74, _⟩ => ⟨S4x32x128, .f32⟩
  | .hbm, ⟨75, _⟩ => ⟨S8x32x128, .bf16⟩
  | .hbm, ⟨76, _⟩ => ⟨S8x4x128, .bf16⟩
  | .hbm, ⟨77, _⟩ => ⟨S8x4x128, .bf16⟩
  | .hbm, ⟨78, _⟩ => ⟨S8x32768x128, .fp8e4m3⟩
  | .hbm, ⟨79, _⟩ => ⟨S8x32768x128, .fp8e4m3⟩
  | .hbm, ⟨80, _⟩ => ⟨S8x32x128, .bf16⟩
  | .hbm, ⟨81, _⟩ => ⟨S8x4x128, .fp8e4m3⟩
  | .hbm, ⟨82, _⟩ => ⟨S8x4x128, .fp8e4m3⟩
  | .local _ .vmem, ⟨0, _⟩ => ⟨S1x32x128, .bf16⟩
  | .local _ .vmem, ⟨1, _⟩ => ⟨S1x32x128, .bf16⟩
  | .local _ .vmem, ⟨2, _⟩ => ⟨S1x4x128, .bf16⟩
  | .local _ .vmem, ⟨3, _⟩ => ⟨S1x4x128, .bf16⟩
  | .local _ .vmem, ⟨4, _⟩ => ⟨S1x4x128, .bf16⟩
  | .local _ .vmem, ⟨5, _⟩ => ⟨S1x4x128, .bf16⟩
  | .local _ .vmem, ⟨6, _⟩ => ⟨S4x32x128, .f32⟩
  | .local _ .vmem, ⟨7, _⟩ => ⟨S1x32768x128, .fp8e4m3⟩
  | .local _ .vmem, ⟨8, _⟩ => ⟨S1x32768x128, .fp8e4m3⟩
  | .local _ .vmem, ⟨9, _⟩ => ⟨S1x32768x128, .fp8e4m3⟩
  | .local _ .vmem, ⟨10, _⟩ => ⟨S1x32768x128, .fp8e4m3⟩
  | .local _ .vmem, ⟨11, _⟩ => ⟨S1x32x128, .bf16⟩
  | .local _ .vmem, ⟨12, _⟩ => ⟨S1x32x128, .bf16⟩
  | .local _ .vmem, ⟨13, _⟩ => ⟨S1x4x128, .fp8e4m3⟩
  | .local _ .vmem, ⟨14, _⟩ => ⟨S1x4x128, .fp8e4m3⟩
  | .local _ .vmem, ⟨15, _⟩ => ⟨S1x4x128, .fp8e4m3⟩
  | .local _ .vmem, ⟨16, _⟩ => ⟨S1x4x128, .fp8e4m3⟩
  | .local _ .vmem, ⟨17, _⟩ => ⟨S16x16384, .f32⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_v12 : Ref sig .tc := ⟨.hbm, 29, rfl⟩
abbrev main_cst_6 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_7 : Ref sig .tc := ⟨.hbm, 34, rfl⟩
abbrev main_v16 : Ref sig .tc := ⟨.hbm, 35, rfl⟩
abbrev main_v17 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v24 : Ref sig .tc := ⟨.hbm, 50, rfl⟩
abbrev main_cst_10 : Ref sig .tc := ⟨.hbm, 51, rfl⟩
abbrev main_v25 : Ref sig .tc := ⟨.hbm, 52, rfl⟩
abbrev main_cst_11 : Ref sig .tc := ⟨.hbm, 53, rfl⟩
abbrev main_v26 : Ref sig .tc := ⟨.hbm, 54, rfl⟩
abbrev main_v27 : Ref sig .tc := ⟨.hbm, 55, rfl⟩
abbrev main_cst_12 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_13 : Ref sig .tc := ⟨.hbm, 60, rfl⟩
abbrev main_v31 : Ref sig .tc := ⟨.hbm, 61, rfl⟩
abbrev main_v32 : Ref sig .tc := ⟨.hbm, 62, rfl⟩
abbrev main_cst_14 : Ref sig .tc := ⟨.hbm, 63, rfl⟩
abbrev main_call3_v0 : Ref sig .tc := ⟨.hbm, 64, rfl⟩
abbrev main_call3_v1 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47_0 : Ref sig .tc := ⟨.hbm, 80, rfl⟩
abbrev main_v47_1 : Ref sig .tc := ⟨.hbm, 81, rfl⟩
abbrev main_v47_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_39 : BitVec 32 := 0#32
  let c16_i32 : BitVec 32 := 16#32
  let v99 : BitVec 32 := Scalar.addi c0_i32_39 c16_i32
  let c1_i32_40 : BitVec 32 := 1#32
  ⟨c0_i32_39, v99, c1_i32_40⟩
def k0_off1 (k0_t1 : Fin k0_t1_loop.trips) : Fin 3 → Nat :=
  let c0_76 : Index := 0#32
  let c0_i32_39 : BitVec 32 := 0#32
  let c1_i32_40 : BitVec 32 := 1#32
  let arg11 : BitVec 32 := Scf.iv c0_i32_39 c1_i32_40 k0_t1
  let c1024_i32 : BitVec 32 := 1024#32
  let v199 : BitVec 32 := Scalar.muli arg11 c1024_i32
  let v200 : Index := Scalar.indexCast v199
  let c0_77 : Index := 0#32
  ![0, v200.toNat, 0]
def k0_off2 (k0_t1 : Fin k0_t1_loop.trips) : Fin 3 → Nat :=
  let c0_79 : Index := 0#32
  let c16384_i32 : BitVec 32 := 16384#32
  let c0_i32_39 : BitVec 32 := 0#32
  let c1_i32_40 : BitVec 32 := 1#32
  let arg11 : BitVec 32 := Scf.iv c0_i32_39 c1_i32_40 k0_t1
  let c1024_i32_78 : BitVec 32 := 1024#32
  let v203 : BitVec 32 := Scalar.muli arg11 c1024_i32_78
  let v204 : BitVec 32 := Scalar.addi c16384_i32 v203
  let v205 : Index := Scalar.indexCast v204
  let c0_80 : Index := 0#32
  ![0, v205.toNat, 0]
def k0_off3 (k0_t1 : Fin k0_t1_loop.trips) : Fin 2 → Nat :=
  let c0_90 : Index := 0#32
  let c0_i32_39 : BitVec 32 := 0#32
  let c1_i32_40 : BitVec 32 := 1#32
  let arg11 : BitVec 32 := Scf.iv c0_i32_39 c1_i32_40 k0_t1
  let c1024_i32_89 : BitVec 32 := 1024#32
  let v251 : BitVec 32 := Scalar.muli arg11 c1024_i32_89
  let v252 : Index := Scalar.indexCast v251
  ![0, v252.toNat]
@[reducible] def k0_t2_loop : Scf.Loop 32 :=
  let c0_i32_57 : BitVec 32 := 0#32
  let c16_i32_58 : BitVec 32 := 16#32
  let v154 : BitVec 32 := Scalar.addi c0_i32_57 c16_i32_58
  let c1_i32_59 : BitVec 32 := 1#32
  ⟨c0_i32_57, v154, c1_i32_59⟩
def k0_off4 (k0_t2 : Fin k0_t2_loop.trips) : Fin 2 → Nat :=
  let c0_76 : Index := 0#32
  let c0_i32_57 : BitVec 32 := 0#32
  let c1_i32_59 : BitVec 32 := 1#32
  let arg11 : BitVec 32 := Scf.iv c0_i32_57 c1_i32_59 k0_t2
  let c1024_i32 : BitVec 32 := 1024#32
  let v199 : BitVec 32 := Scalar.muli arg11 c1024_i32
  let v200 : Index := Scalar.indexCast v199
  ![0, v200.toNat]
def k0_off5 (k0_t2 : Fin k0_t2_loop.trips) : Fin 3 → Nat :=
  let c0_94 : Index := 0#32
  let c0_i32_57 : BitVec 32 := 0#32
  let c1_i32_59 : BitVec 32 := 1#32
  let arg11 : BitVec 32 := Scf.iv c0_i32_57 c1_i32_59 k0_t2
  let c1024_i32_93 : BitVec 32 := 1024#32
  let v277 : BitVec 32 := Scalar.muli arg11 c1024_i32_93
  let v278 : Index := Scalar.indexCast v277
  let c0_95 : Index := 0#32
  ![0, v278.toNat, 0]
def k0_off6 (k0_t2 : Fin k0_t2_loop.trips) : Fin 3 → Nat :=
  let c0_97 : Index := 0#32
  let c16384_i32 : BitVec 32 := 16384#32
  let c0_i32_57 : BitVec 32 := 0#32
  let c1_i32_59 : BitVec 32 := 1#32
  let arg11 : BitVec 32 := Scf.iv c0_i32_57 c1_i32_59 k0_t2
  let c1024_i32_96 : BitVec 32 := 1024#32
  let v281 : BitVec 32 := Scalar.muli arg11 c1024_i32_96
  let v282 : BitVec 32 := Scalar.addi c16384_i32 v281
  let v283 : Index := Scalar.indexCast v282
  let c0_98 : Index := 0#32
  ![0, v283.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32768x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32768x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x1x4096 : Shape := ⟨3, ![8, 1, 4096]⟩
abbrev S8x1x4x128 : Shape := ⟨4, ![8, 1, 4, 128]⟩
abbrev S8x8192x4x128 : Shape := ⟨4, ![8, 8192, 4, 128]⟩
abbrev S4 : Shape := ⟨1, ![4]⟩
abbrev S254 : Shape := ⟨1, ![254]⟩
abbrev S254x1 : Shape := ⟨2, ![254, 1]⟩
abbrev S8x4x8x128 : Shape := ⟨4, ![8, 4, 8, 128]⟩
abbrev S8x4x128 : Shape := ⟨3, ![8, 4, 128]⟩
abbrev S4x1 : Shape := ⟨2, ![4, 1]⟩
abbrev S1x4 : Shape := ⟨2, ![1, 4]⟩
abbrev S254x4 : Shape := ⟨2, ![254, 4]⟩
abbrev S_ : Shape := ⟨0, ![]⟩
abbrev S8x32x128 : Shape := ⟨3, ![8, 32, 128]⟩
abbrev S1x4x1 : Shape := ⟨3, ![1, 4, 1]⟩
abbrev S1x1x4x1 : Shape := ⟨4, ![1, 1, 4, 1]⟩
abbrev S8x1x4x8x128 : Shape := ⟨5, ![8, 1, 4, 8, 128]⟩
abbrev S8x8192x4x1x128 : Shape := ⟨5, ![8, 8192, 4, 1, 128]⟩
abbrev S8x8192x4x8x128 : Shape := ⟨5, ![8, 8192, 4, 8, 128]⟩
abbrev S8x8192x4x8 : Shape := ⟨4, ![8, 8192, 4, 8]⟩
abbrev S8x4x1x128 : Shape := ⟨4, ![8, 4, 1, 128]⟩
abbrev S8x4x8 : Shape := ⟨3, ![8, 4, 8]⟩
abbrev S8x1x4x8 : Shape := ⟨4, ![8, 1, 4, 8]⟩
abbrev S8x8192x4x8x1 : Shape := ⟨5, ![8, 8192, 4, 8, 1]⟩
abbrev S8x4x8x1 : Shape := ⟨4, ![8, 4, 8, 1]⟩

abbrev nBuf : Space → Nat
  | .hbm => 77
  | .vmem => 12
  | .smem => 0
  | _ => 0

abbrev bufTy : (tb : Table) → Fin (tcTables nBuf tb) → BufTy
  | .hbm, ⟨0, _⟩ => ⟨S8x1x4096, .bf16⟩
  | .hbm, ⟨1, _⟩ => ⟨S8x1x4x128, .bf16⟩
  | .hbm, ⟨2, _⟩ => ⟨S8x1x4x128, .bf16⟩
  | .hbm, ⟨3, _⟩ => ⟨S8x8192x4x128, .fp8e4m3⟩
  | .hbm, ⟨4, _⟩ => ⟨S4, .f32⟩
  | .hbm, ⟨5, _⟩ => ⟨S8x8192x4x128, .fp8e4m3⟩
  | .hbm, ⟨6, _⟩ => ⟨S4, .f32⟩
  | .hbm, ⟨7, _⟩ => ⟨S254, .f32⟩
  | .hbm, ⟨8, _⟩ => ⟨S254x1, .f32⟩
  | .hbm, ⟨9, _⟩ => ⟨S254, .f32⟩
  | .hbm, ⟨10, _⟩ => ⟨S254x1, .f32⟩
  | .hbm, ⟨11, _⟩ => ⟨S254, .f32⟩
  | .hbm, ⟨12, _⟩ => ⟨S254x1, .f32⟩
  | .hbm, ⟨13, _⟩ => ⟨S254, .f32⟩
  | .hbm, ⟨14, _⟩ => ⟨S254x1, .f32⟩
  | .hbm, ⟨15, _⟩ => ⟨S8x4x8x128, .bf16⟩
  | .hbm, ⟨16, _⟩ => ⟨S8x4x128, .bf16⟩
  | .hbm, ⟨17, _⟩ => ⟨S8x4x128, .bf16⟩
  | .hbm, ⟨18, _⟩ => ⟨S4x1, .f32⟩
  | .hbm, ⟨19, _⟩ => ⟨S4, .f32⟩
  | .hbm, ⟨20, _⟩ => ⟨S1x4, .f32⟩
  | .hbm, ⟨21, _⟩ => ⟨S254x4, .f32⟩
  | .hbm, ⟨22, _⟩ => ⟨S254x4, .f32⟩
  | .hbm, ⟨23, _⟩ => ⟨S254x4, .i1⟩
  | .hbm, ⟨24, _⟩ => ⟨S_, .f32⟩
  | .hbm, ⟨25, _⟩ => ⟨S_, .f32⟩
  | .hbm, ⟨26, _⟩ => ⟨S254x4, .f32⟩
  | .hbm, ⟨27, _⟩ => ⟨S254x4, .f32⟩
  | .hbm, ⟨28, _⟩ => ⟨S254x4, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .i1⟩
  | .hbm, ⟨34, _⟩ => ⟨S_, .f32⟩
  | .hbm, ⟨35, _⟩ => ⟨S4, .f32⟩
  | .hbm, ⟨36, _⟩ => ⟨S4, .i1⟩
  | .hbm, ⟨37, _⟩ => ⟨S4, .i1⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4x1, .f32⟩
  | .hbm, ⟨46, _⟩ => ⟨S4x1, .f32⟩
  | .hbm, ⟨47, _⟩ => ⟨S4, .f32⟩
  | .hbm, ⟨48, _⟩ => ⟨S1x4, .f32⟩
  | .hbm, ⟨49, _⟩ => ⟨S254x4, .f32⟩
  | .hbm, ⟨50, _⟩ => ⟨S254x4, .f32⟩
  | .hbm, ⟨51, _⟩ => ⟨S254x4, .i1⟩
  | .hbm, ⟨52, _⟩ => ⟨S_, .f32⟩
  | .hbm, ⟨53, _⟩ => ⟨S_, .f32⟩
  | .hbm, ⟨54, _⟩ => ⟨S254x4, .f32⟩
  | .hbm, ⟨55, _⟩ => ⟨S254x4, .f32⟩
  | .hbm, ⟨56, _⟩ => ⟨S254x4, .f32⟩
  | .hbm, ⟨57, _⟩ => ⟨S_, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .i1⟩
  | .hbm, ⟨62, _⟩ => ⟨S_, .f32⟩
  | .hbm, ⟨63, _⟩ => ⟨S4, .f32⟩
  | .hbm, ⟨64, _⟩ => ⟨S4, .i1⟩
  | .hbm, ⟨65, _⟩ => ⟨S4, .i1⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S_, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S4x1, .f32⟩
  | .hbm, ⟨74, _⟩ => ⟨S8x32x128, .bf16⟩
  | .hbm, ⟨75, _⟩ => ⟨S8x4x128, .fp8e4m3⟩
  | .hbm, ⟨76, _⟩ => ⟨S8x4x128, .fp8e4m3⟩
  | .local _ .vmem, ⟨0, _⟩ => ⟨S8x4x8x128, .bf16⟩
  | .local _ .vmem, ⟨1, _⟩ => ⟨S8x4x128, .bf16⟩
  | .local _ .vmem, ⟨2, _⟩ => ⟨S8x4x128, .bf16⟩
  | .local _ .vmem, ⟨3, _⟩ => ⟨S8x8192x4x128, .fp8e4m3⟩
  | .local _ .vmem, ⟨4, _⟩ => ⟨S4x1, .f32⟩
  | .local _ .vmem, ⟨5, _⟩ => ⟨S4x1, .f32⟩
  | .local _ .vmem, ⟨6, _⟩ => ⟨S8x8192x4x128, .fp8e4m3⟩
  | .local _ .vmem, ⟨7, _⟩ => ⟨S4x1, .f32⟩
  | .local _ .vmem, ⟨8, _⟩ => ⟨S4x1, .f32⟩
  | .local _ .vmem, ⟨9, _⟩ => ⟨S8x32x128, .bf16⟩
  | .local _ .vmem, ⟨10, _⟩ => ⟨S8x4x128, .fp8e4m3⟩
  | .local _ .vmem, ⟨11, _⟩ => ⟨S8x4x128, .fp8e4m3⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_7 : Ref sig .tc := ⟨.hbm, 38, rfl⟩
abbrev main_v20 : Ref sig .tc := ⟨.hbm, 39, rfl⟩
abbrev main_v21 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v30 : Ref sig .tc := ⟨.hbm, 56, rfl⟩
abbrev main_cst_10 : Ref sig .tc := ⟨.hbm, 57, rfl⟩
abbrev main_v31 : Ref sig .tc := ⟨.hbm, 58, rfl⟩
abbrev main_cst_11 : Ref sig .tc := ⟨.hbm, 59, rfl⟩
abbrev main_v32 : Ref sig .tc := ⟨.hbm, 60, rfl⟩
abbrev main_v33 : Ref sig .tc := ⟨.hbm, 61, rfl⟩
abbrev main_cst_12 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_13 : Ref sig .tc := ⟨.hbm, 66, rfl⟩
abbrev main_v37 : Ref sig .tc := ⟨.hbm, 67, rfl⟩
abbrev main_v38 : Ref sig .tc := ⟨.hbm, 68, rfl⟩
abbrev main_cst_14 : Ref sig .tc := ⟨.hbm, 69, rfl⟩
abbrev main_call3_v0 : Ref sig .tc := ⟨.hbm, 70, rfl⟩
abbrev main_call3_v1 : Ref sig .tc := ⟨.hbm, 71, rfl⟩
abbrev main_v39 : Ref sig .tc := ⟨.hbm, 72, rfl⟩
abbrev main_v40 : Ref sig .tc := ⟨.hbm, 73, rfl⟩
abbrev main_v41_0 : Ref sig .tc := ⟨.hbm, 74, rfl⟩
abbrev main_v41_1 : Ref sig .tc := ⟨.hbm, 75, rfl⟩
abbrev main_v41_2 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x4x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x4x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192x4x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x32x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x4x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x4x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelRun.lean ====
/-
  ONE RUN OF THE KERNEL'S BODY, from ANY contents of the scratch buffer.

  The body fills its scratch buffer (the scores, one [16,1024] strip per trip of its first loop) before it reads it
  back (the second loop). What it stores into its three results is found by running it; here the scratch's contents
  before the run are a PARAMETER `fs`, so the stored values may mention them. Module `Scratch` shows that they do not
  depend on them.

  (Of the program `Kernel`: module `Run` says the same of `KernelIdeal`, whose text is the same.)
-/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each result's staging memref, as pieces, WITH the proof that on whole staging
    memrefs — the inputs' at their contents, the results' at anything, the scratch at `fs` — the body runs to the
    continuation holding the inputs' as they were, the scratch at some contents, each result's buffer with its pieces
    written. -/
noncomputable def runAt (c : Dev nD) (i : grid0.Coords) (arg1 : Memref sig .tc .vmem S1x32x128 .bf16) (harg1 : arg1.IsWhole) (arg2 : Memref sig .tc .vmem S1x4x128 .bf16) (harg2 : arg2.IsWhole) (arg3 : Memref sig .tc .vmem S1x4x128 .bf16) (harg3 : arg3.IsWhole) (arg4 : Memref sig .tc .vmem S4x32x128 .f32) (harg4 : arg4.IsWhole) (arg5 : Memref sig .tc .vmem S1x32768x128 .fp8e4m3) (harg5 : arg5.IsWhole) (arg6 : Memref sig .tc .vmem S1x32768x128 .fp8e4m3) (harg6 : arg6.IsWhole) (arg7 : Memref sig .tc .vmem S1x32x128 .bf16) (harg7 : arg7.IsWhole) (arg8 : Memref sig .tc .vmem S1x4x128 .fp8e4m3) (harg8 : arg8.IsWhole) (arg9 : Memref sig .tc .vmem S1x4x128 .fp8e4m3) (harg9 : arg9.IsWhole) (arg10 : Memref sig .tc .vmem S16x16384 .f32) (harg10 : arg10.IsWhole)
    (x0 : Vec F S1x32x128 .bf16) (x1 : Vec F S1x4x128 .bf16) (x2 : Vec F S1x4x128 .bf16) (x3 : Vec F S4x32x128 .f32) (x4 : Vec F S1x32768x128 .fp8e4m3) (x5 : Vec F S1x32768x128 .fp8e4m3) (fs : BufTy.Contents (Elt F) arg10.view.ty) :
    Σ' (L6 : List (View.Piece (Elt F) S1x32x128 .bf16)), Σ' (L7 : List (View.Piece (Elt F) S1x4x128 .fp8e4m3)), { L8 : List (View.Piece (Elt F) S1x4x128 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (arg10.view.loc (c : Thread nD τ) ↦[arg10.view.set]{fullShare} fs)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d)) -∗ K ⟨⟩))
          ⊢ wp frame (wpE (defs₀ (F := F)) Variants.none c none) E (cc0__attend i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__attend_eq_skeleton]; unfold cc0__attend_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, HS0, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _, _; isplitr; swap; · iexact HS0
    ipureintro; rfl

end Cert.Kernel.Val

end
-- ==== Proof.KernelBlock.lean ====
/-
  THE BODY'S VALUES, as functions of the blocks it reads (one sequence of the batch).

  `x0` is the query block [1,32,128], `x1` and `x2` the new token's key and value blocks [1,4,128], `x3` the parameters
  [4,32,128] (key scale, value scale, and their quantising inverses, one row per KV head, repeated), `x4` and `x5` the key
  and value codes [1,32768,128]. Each definition names one value of the body: the two scale tiles, one trip of the first
  loop (scores and running maximum), one trip of the second (weights, their sums, the weighted values), and the three
  blocks stored.

  (Of the program `Kernel`: module `Block` says the same of `KernelIdeal`, whose text is the same.)
-/
module

public import proofs.«01_k».proof.Proof.Gen.Kernel.Skeleton
public import Idealize.ShloMosaic.Lib.Pointwise
public import Idealize.ShloMosaic.Lib.Pipeline.FrameBody

@[expose] public section

set_option maxRecDepth 16384

noncomputable section

namespace Cert.Kernel.Val

open Cert.Kernel Cert.Kernel.Gen
open Idealize.ShloMosaic Idealize.ShloMosaic.TcCoe Idealize.ShloMosaic.Tactic
open Idealize.SL.Sem

variable {F : FTy → Type} [FloatOps F]

/-- Key scales, one row per sublane, as the body multiplies them to key codes. -/
def keyTile (x3 : Vec F S4x32x128 .f32) : FVec F S16x128 .bf16 :=
  k0_pay29 (View.ld x3 (Rect.unit (s := S4x32x128) ![0, 0, 0] S1x32x128.size inb_S4x32x128_S1x32x128_0_0_0))

/-- Value scales, one row per sublane. -/
def valueTile (x3 : Vec F S4x32x128 .f32) : FVec F S16x128 .bf16 :=
  k0_pay30 (View.ld x3 (Rect.unit (s := S4x32x128) ![1, 0, 0] S1x32x128.size inb_S4x32x128_S1x32x128_1_0_0))

/-- The KV head of each lane of a chunk: `lane % 4`. -/
def chunkHead : IVec S8x1024 32 := k0_pay42 4#32 k0_pay39 k0_pay40 k0_pay41

/-- Rows `1024 k … 1024 k + 1023` of a cache block: trip `k`'s chunk of the first half. -/
def loChunk (x : Vec F S1x32768x128 .fp8e4m3) (k : Fin k0_t1_loop.trips) : Vec F S1x1024x128 .fp8e4m3 :=
  View.ld x (Rect.unit (s := S1x32768x128) (k0_off1 k) S1x1024x128.size (k0_off1_inb k))

/-- Rows `16384 + 1024 k …`: trip `k`'s chunk of the second half. -/
def hiChunk (x : Vec F S1x32768x128 .fp8e4m3) (k : Fin k0_t1_loop.trips) : Vec F S1x1024x128 .fp8e4m3 :=
  View.ld x (Rect.unit (s := S1x32768x128) (k0_off2 k) S1x1024x128.size (k0_off2_inb k))

/-- The same two chunks as the second loop reads them. -/
def loChunk2 (x : Vec F S1x32768x128 .fp8e4m3) (k : Fin k0_t2_loop.trips) : Vec F S1x1024x128 .fp8e4m3 :=
  View.ld x (Rect.unit (s := S1x32768x128) (k0_off5 k) S1x1024x128.size (k0_off5_inb k))

def hiChunk2 (x : Vec F S1x32768x128 .fp8e4m3) (k : Fin k0_t2_loop.trips) : Vec F S1x1024x128 .fp8e4m3 :=
  View.ld x (Rect.unit (s := S1x32768x128) (k0_off6 k) S1x1024x128.size (k0_off6_inb k))

/-- The scores of two chunks: each lane keeps the eight query rows of its own KV head; rows 0–7 are the first chunk's,
    rows 8–15 the second's. -/
def strip (v6 : FVec F S16x128 .bf16) (v63 : FVec F S64x256 .bf16) (a b : Vec F S1x1024x128 .fp8e4m3) : FVec F S16x1024 .f32 :=
  k0_pay45 4#32 k0_pay39 k0_pay40 k0_pay41 (k0_pay3 v6 v63 a b) (k0_pay4 v6 v63 a b) (k0_pay5 v6 v63 a b)
    (k0_pay6 v6 v63 a b) (k0_pay7 v6 v63 chunkHead a b) (k0_pay8 chunkHead) (k0_pay9 chunkHead) k0_pay10

/-- The running maximum after one more trip: its eight slices of 128 lanes folded in. -/
def maxStep (v6 : FVec F S16x128 .bf16) (v63 : FVec F S64x256 .bf16) (a b : Vec F S1x1024x128 .fp8e4m3)
    (acc : FVec F S16x128 .f32) : FVec F S16x128 .f32 :=
  k0_pay47 4#32 k0_pay39 k0_pay40 k0_pay41 acc (k0_pay3 v6 v63 a b) (k0_pay4 v6 v63 a b) (k0_pay5 v6 v63 a b)
    (k0_pay6 v6 v63 a b) (k0_pay7 v6 v63 chunkHead a b) (k0_pay8 chunkHead) (k0_pay9 chunkHead) k0_pay10

/-- The running maximum before trip `k` of the first loop. -/
def maxAt (v6 : FVec F S16x128 .bf16) (v63 : FVec F S64x256 .bf16) (x4 : Vec F S1x32768x128 .fp8e4m3) : ℕ → FVec F S16x128 .f32
  | 0 => k0_pay44
  | k + 1 => if h : k < k0_t1_loop.trips then
      maxStep v6 v63 (loChunk x4 ⟨k, h⟩) (hiChunk x4 ⟨k, h⟩) (maxAt v6 v63 x4 k) else maxAt v6 v63 x4 k

/-- All scores, as the scratch buffer holds them after the first loop: column `w` is lane `w % 1024` of trip `w / 1024`. -/
def allScores (v6 : FVec F S16x128 .bf16) (v63 : FVec F S64x256 .bf16) (x4 : Vec F S1x32768x128 .fp8e4m3) : Vec F S16x16384 .f32 :=
  fun y => if h : (y 1).val / 1024 < k0_t1_loop.trips then
      strip v6 v63 (loChunk x4 ⟨_, h⟩) (hiChunk x4 ⟨_, h⟩) (ix2 (y 0) ⟨(y 1).val % 1024, Nat.mod_lt _ (by decide)⟩)
    else Scalar.ofBits .f32 0x00000000#32

/-- Columns `1024 k …` of the scratch: the strip trip `k` of the second loop reads. -/
def scoreChunk (s : Vec F S16x16384 .f32) (k : Fin k0_t2_loop.trips) : Vec F S16x1024 .f32 :=
  View.ld s (Rect.unit (s := S16x16384) (k0_off4 k) S16x1024.size (k0_off4_inb k))

/-- The sums of the weights after one more trip (each lane its own). -/
def sumStep (mx : FVec F S16x128 .f32) (s : Vec F S16x1024 .f32) (l : FVec F S16x128 .f32) : FVec F S16x128 .f32 :=
  k0_pay19 mx l s

/-- The weighted values after one more trip: masked weights times dequantised value rows. -/
def accStep (v7 : FVec F S16x128 .bf16) (mx : FVec F S16x128 .f32) (s : Vec F S16x1024 .f32) (a b : Vec F S1x1024x128 .fp8e4m3)
    (acc : FVec F S64x256 .f32) : FVec F S64x256 .f32 :=
  k0_pay56 v7 acc (k0_pay24 chunkHead (k0_pay20 mx s) (k0_pay21 chunkHead mx s) (k0_pay22 chunkHead mx s) (k0_pay23 chunkHead mx s))
    (k0_pay25 v7 a) (k0_pay26 b)

/-- What the second loop carries before trip `k`. -/
def weightedAt (v7 : FVec F S16x128 .bf16) (mx : FVec F S16x128 .f32) (s : Vec F S16x16384 .f32) (x5 : Vec F S1x32768x128 .fp8e4m3) :
    ℕ → FVec F S16x128 .f32 × FVec F S64x256 .f32
  | 0 => (k0_pay54, k0_pay55)
  | k + 1 => if h : k < k0_t2_loop.trips then
      (sumStep mx (scoreChunk s ⟨k, h⟩) (weightedAt v7 mx s x5 k).1,
        accStep v7 mx (scoreChunk s ⟨k, h⟩) (loChunk2 x5 ⟨k, h⟩) (hiChunk2 x5 ⟨k, h⟩) (weightedAt v7 mx s x5 k).2)
    else weightedAt v7 mx s x5 k

/-- The new token's key codes [4,128]. -/
def keyCodes (x1 : Vec F S1x4x128 .bf16) (x3 : Vec F S4x32x128 .f32) : FVec F S4x128 .fp8e4m3 :=
  k0_pay31 x1 (View.ld x3 (Rect.unit (s := S4x32x128) ![2, 0, 0] S1x4x128.size inb_S4x32x128_S1x4x128_2_0_0))

/-- The new token's value codes [4,128]. -/
def valueCodes (x2 : Vec F S1x4x128 .bf16) (x3 : Vec F S4x32x128 .f32) : FVec F S4x128 .fp8e4m3 :=
  k0_pay32 x2 (View.ld x3 (Rect.unit (s := S4x32x128) ![3, 0, 0] S1x4x128.size inb_S4x32x128_S1x4x128_3_0_0))

/-- The new token's score per query head [32,1]. -/
def newScore (x0 : Vec F S1x32x128 .bf16) (x1 : Vec F S1x4x128 .bf16) (x3 : Vec F S4x32x128 .f32) : FVec F S32x1 .f32 :=
  k0_pay37 (k0_pay27 (View.ld x3 (Rect.unit (s := S4x32x128) ![0, 0, 0] S1x32x128.size inb_S4x32x128_S1x32x128_0_0_0)))
    (keyCodes x1 x3) x0

/-- The new token's value row per query head [32,128]. -/
def newValue (x2 : Vec F S1x4x128 .bf16) (x3 : Vec F S4x32x128 .f32) : FVec F S32x128 .f32 :=
  k0_pay35 (k0_pay28 (View.ld x3 (Rect.unit (s := S4x32x128) ![1, 0, 0] S1x32x128.size inb_S4x32x128_S1x32x128_1_0_0)))
    (valueCodes x2 x3)

/-- The running maximum after the whole first loop. -/
def maxAll (x0 : Vec F S1x32x128 .bf16) (x3 : Vec F S4x32x128 .f32) (x4 : Vec F S1x32768x128 .fp8e4m3) : FVec F S16x128 .f32 :=
  maxAt (keyTile x3) (k0_pay38 x0) x4 k0_t1_loop.trips

/-- The maximum per query head [32,1], the new token's score included. -/
def maxCol (x0 : Vec F S1x32x128 .bf16) (x1 : Vec F S1x4x128 .bf16) (x3 : Vec F S4x32x128 .f32) (x4 : Vec F S1x32768x128 .fp8e4m3) :
    FVec F S32x1 .f32 :=
  k0_pay52 (newScore x0 x1 x3) k0_pay43 (k0_pay48 (maxAll x0 x3 x4)) (k0_pay49 (maxAll x0 x3 x4)) (k0_pay50 (maxAll x0 x3 x4))
    k0_pay51 (Scalar.ofBits .f32 0xFF800000#32)

/-- The same maximum laid out by lanes [16,128]. -/
def maxLane (x0 : Vec F S1x32x128 .bf16) (x1 : Vec F S1x4x128 .bf16) (x3 : Vec F S4x32x128 .f32) (x4 : Vec F S1x32768x128 .fp8e4m3) :
    FVec F S16x128 .f32 :=
  k0_pay53 (newScore x0 x1 x3) k0_pay43 (k0_pay48 (maxAll x0 x3 x4)) (k0_pay49 (maxAll x0 x3 x4)) (k0_pay50 (maxAll x0 x3 x4))
    k0_pay51 (Scalar.ofBits .f32 0xFF800000#32)

/-- What the second loop ends with. -/
def weighted (x0 : Vec F S1x32x128 .bf16) (x1 : Vec F S1x4x128 .bf16) (x3 : Vec F S4x32x128 .f32) (x4 x5 : Vec F S1x32768x128 .fp8e4m3) :
    FVec F S16x128 .f32 × FVec F S64x256 .f32 :=
  weightedAt (valueTile x3) (maxLane x0 x1 x3 x4) (allScores (keyTile x3) (k0_pay38 x0) x4) x5 k0_t2_loop.trips

/-- The attention output's block. -/
def outY (x0 : Vec F S1x32x128 .bf16) (x1 x2 : Vec F S1x4x128 .bf16) (x3 : Vec F S4x32x128 .f32) (x4 x5 : Vec F S1x32768x128 .fp8e4m3) :
    FVec F S1x32x128 .bf16 :=
  k0_pay1 (newValue x2 x3) (newScore x0 x1 x3) k0_pay43 (maxCol x0 x1 x3 x4) (weighted x0 x1 x3 x4 x5).2
    (k0_pay57 (weighted x0 x1 x3 x4 x5).1) (k0_pay58 k0_pay43 (weighted x0 x1 x3 x4 x5).1)

/-- The key codes' block. -/
def outK (x1 : Vec F S1x4x128 .bf16) (x3 : Vec F S4x32x128 .f32) : FVec F S1x4x128 .fp8e4m3 :=
  k0_pay33 x1 (View.ld x3 (Rect.unit (s := S4x32x128) ![2, 0, 0] S1x4x128.size inb_S4x32x128_S1x4x128_2_0_0))

/-- The value codes' block. -/
def outV (x2 : Vec F S1x4x128 .bf16) (x3 : Vec F S4x32x128 .f32) : FVec F S1x4x128 .fp8e4m3 := k0_pay34 (valueCodes x2 x3)

end Cert.Kernel.Val

end
-- ==== Proof.KernelLoopForms.lean ====
/-
  THE TWO LOOPS, in closed form: what the first loop leaves in the scratch buffer and carries out, and what the second
  carries out when it reads that scratch.

  (Of the program `Kernel`: module `LoopForms` says the same of `KernelIdeal`, whose text is the same.)
-/
module

public import proofs.«01_k».proof.Proof.Gen.Kernel.Loops
public import proofs.«01_k».proof.Proof.KernelBlock

@[expose] public section

set_option maxRecDepth 16384

noncomputable section

namespace Cert.Kernel.Val

open Cert.Kernel Cert.Kernel.Gen
open Idealize.ShloMosaic Idealize.ShloMosaic.TcCoe Idealize.ShloMosaic.Tactic
open Idealize.SL.Sem

variable {F : FTy → Type} [FloatOps F]

variable (𝒱 : Variants) (c : Dev nD) (bd : Option 𝒱.V) (i : grid0.Coords) (arg1 : Memref sig .tc .vmem S1x32x128 .bf16) (harg1 : arg1.IsWhole) (arg2 : Memref sig .tc .vmem S1x4x128 .bf16) (harg2 : arg2.IsWhole) (arg3 : Memref sig .tc .vmem S1x4x128 .bf16) (harg3 : arg3.IsWhole) (arg4 : Memref sig .tc .vmem S4x32x128 .f32) (harg4 : arg4.IsWhole) (arg5 : Memref sig .tc .vmem S1x32768x128 .fp8e4m3) (harg5 : arg5.IsWhole) (arg6 : Memref sig .tc .vmem S1x32768x128 .fp8e4m3) (harg6 : arg6.IsWhole) (arg7 : Memref sig .tc .vmem S1x32x128 .bf16) (harg7 : arg7.IsWhole) (arg8 : Memref sig .tc .vmem S1x4x128 .fp8e4m3) (harg8 : arg8.IsWhole) (arg9 : Memref sig .tc .vmem S1x4x128 .fp8e4m3) (harg9 : arg9.IsWhole) (arg10 : Memref sig .tc .vmem S16x16384 .f32) (harg10 : arg10.IsWhole)

section First

variable (v6 : FVec F S16x128 .bf16) (v63 : FVec F S64x256 .bf16) (x4 : Vec F S1x32768x128 .fp8e4m3)

/-- One trip of the first loop yields the running maximum with its strip folded in. -/
theorem tripR1_eq (k : Fin k0_t1_loop.trips) (acc : FVec F S16x128 .f32) :
    tripR_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k acc
      = maxStep v6 v63 (loChunk x4 k) (hiChunk x4 k) acc := by
  unfold tripR_k0_t1 trip_k0_t1
  dsimp only
  sl_unfold_words
  simp only [View.readAt_eq_ld, harg5.read_unread]
  rfl

/-- One trip of the first loop stores its strip, at its own columns. -/
theorem tripL1_eq (k : Fin k0_t1_loop.trips) (acc : FVec F S16x128 .f32) :
    tripL_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k acc
      = [⟨Rect.unit (s := S16x16384) (k0_off3 k) S16x1024.size (k0_off3_inb k), strip v6 v63 (loChunk x4 k) (hiChunk x4 k)⟩] := by
  unfold tripL_k0_t1 trip_k0_t1
  dsimp only
  sl_unfold_words
  simp only [View.readAt_eq_ld, harg5.read_unread]
  unfold k0_pay46
  simp only [shapeCast_self]
  rfl

end First

section Second

variable (v7 : FVec F S16x128 .bf16) (v59 : FVec F S32x1 .f32) (v97 : IVec S8x128 32) (v103 : FVec F S8x128 .f32) (v109 : FVec F S8x1 .f32)
  (v115 : FVec F S8x1 .f32) (v117 : IVec S8x128 1) (cst_48 : F .f32) (x5 : Vec F S1x32768x128 .fp8e4m3) (s : Vec F S16x16384 .f32)

/-- One trip of the second loop. -/
theorem tripR2_eq (k : Fin k0_t2_loop.trips) (acc : FVec F S16x128 .f32 × FVec F S64x256 .f32) :
    tripR_k0_t2 (F := F) 𝒱 c bd i arg1 harg1 arg2 harg2 arg3 harg3 arg4 harg4 arg5 harg5 arg6 harg6 arg7 harg7 arg8 harg8 arg9 harg9 arg10 harg10 v7 v59 chunkHead v97 v103 v109 v115 v117 cst_48 (harg6.unread x5) (harg10.unread s) k acc
      = (sumStep (k0_pay53 v59 v97 v103 v109 v115 v117 cst_48) (scoreChunk s k) acc.1,
          accStep v7 (k0_pay53 v59 v97 v103 v109 v115 v117 cst_48) (scoreChunk s k) (loChunk2 x5 k) (hiChunk2 x5 k) acc.2) := by
  unfold tripR_k0_t2 trip_k0_t2
  dsimp only
  sl_unfold_words
  simp only [View.readAt_eq_ld, harg6.read_unread, harg10.read_unread]
  rfl

/-- The second loop's state before trip `k`. -/
theorem st2_eq (k : ℕ) (hk : k ≤ k0_t2_loop.trips) :
    st_k0_t2 (F := F) 𝒱 c bd i arg1 harg1 arg2 harg2 arg3 harg3 arg4 harg4 arg5 harg5 arg6 harg6 arg7 harg7 arg8 harg8 arg9 harg9 arg10 harg10 v7 v59 chunkHead v97 v103 v109 v115 v117 cst_48 (harg6.unread x5) (harg10.unread s) (k0_pay54, k0_pay55) k
      = weightedAt v7 (k0_pay53 v59 v97 v103 v109 v115 v117 cst_48) s x5 k := by
  induction k with
  | zero => rfl
  | succ k ih =>
    have h : k < k0_t2_loop.trips := hk
    refine (st_k0_t2_succ (F := F) 𝒱 c bd i arg1 harg1 arg2 harg2 arg3 harg3 arg4 harg4 arg5 harg5 arg6 harg6 arg7 harg7 arg8 harg8 arg9 harg9 arg10 harg10 v7 v59 chunkHead v97 v103 v109 v115 v117 cst_48 (harg6.unread x5) (harg10.unread s) (k0_pay54, k0_pay55) ⟨k, h⟩).trans ?_
    rw [tripR2_eq]
    dsimp only
    rw [ih (le_of_lt h), weightedAt, dif_pos h]

end Second

end Cert.Kernel.Val

end
-- ==== Proof.KernelScratch.lean ====
/-
  THE SCRATCH BUFFER AFTER THE FIRST LOOP. Sixteen strips of 1024 columns fill its 16384 columns, so whatever it held
  before, it holds all the scores after; and the loop carries out the running maximum.

  (Of the program `Kernel`: module `Scratch` says the same of `KernelIdeal`, whose text is the same.)
-/
module

public import proofs.«01_k».proof.Proof.KernelLoopForms
public import Idealize.ShloMosaic.Lib.WritesUnit

@[expose] public section

set_option maxRecDepth 16384

noncomputable section

namespace Cert.Kernel.Val

open Cert.Kernel Cert.Kernel.Gen
open Idealize.ShloMosaic Idealize.ShloMosaic.TcCoe Idealize.ShloMosaic.Tactic
open Idealize.SL.Sem

variable {F : FTy → Type} [FloatOps F]

theorem trips1 : k0_t1_loop.trips = 16 := by decide +kernel

theorem trips2 : k0_t2_loop.trips = 16 := by decide +kernel

variable (𝒱 : Variants) (c : Dev nD) (bd : Option 𝒱.V) (i : grid0.Coords) (arg1 : Memref sig .tc .vmem S1x32x128 .bf16) (harg1 : arg1.IsWhole) (arg2 : Memref sig .tc .vmem S1x4x128 .bf16) (harg2 : arg2.IsWhole) (arg3 : Memref sig .tc .vmem S1x4x128 .bf16) (harg3 : arg3.IsWhole) (arg4 : Memref sig .tc .vmem S4x32x128 .f32) (harg4 : arg4.IsWhole) (arg5 : Memref sig .tc .vmem S1x32768x128 .fp8e4m3) (harg5 : arg5.IsWhole) (arg6 : Memref sig .tc .vmem S1x32768x128 .fp8e4m3) (harg6 : arg6.IsWhole) (arg7 : Memref sig .tc .vmem S1x32x128 .bf16) (harg7 : arg7.IsWhole) (arg8 : Memref sig .tc .vmem S1x4x128 .fp8e4m3) (harg8 : arg8.IsWhole) (arg9 : Memref sig .tc .vmem S1x4x128 .fp8e4m3) (harg9 : arg9.IsWhole) (arg10 : Memref sig .tc .vmem S16x16384 .f32) (harg10 : arg10.IsWhole)

variable (v6 : FVec F S16x128 .bf16) (v63 : FVec F S64x256 .bf16) (x4 : Vec F S1x32768x128 .fp8e4m3)

/-- What the first loop carries before trip `k`. -/
theorem st1_fst (k : ℕ) (hk : k ≤ k0_t1_loop.trips) :
    (st_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 k).1 = maxAt v6 v63 x4 k := by
  induction k with
  | zero => rfl
  | succ k ih =>
    have h : k < k0_t1_loop.trips := hk
    rw [show st_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 (k + 1) = _ from
      st_k0_t1_succ (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 ⟨k, h⟩]
    dsimp only
    rw [tripR1_eq, ih (le_of_lt h), maxAt, dif_pos h]

/-- Before trip `k` the first `1024 k` columns of the scratch hold the scores. -/
theorem st1_read (fs : BufTy.Contents (Elt F) arg10.view.ty) (k : ℕ) (hk : k ≤ k0_t1_loop.trips) (y : S16x16384.Idx)
    (hy : (y 1).val < 1024 * k) :
    arg10.view.read (Elt F) (arg10.view.writes (Elt F) fs (st_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 k).2) y
      = allScores v6 v63 x4 y := by
  induction k with
  | zero => omega
  | succ k ih =>
    have h : k < k0_t1_loop.trips := hk
    rw [show st_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 (k + 1) = _ from
      st_k0_t1_succ (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 ⟨k, h⟩]
    dsimp only
    rw [tripL1_eq, List.singleton_append]
    by_cases hlt : (y 1).val < 1024 * k
    · refine (View.read_writes_cons_unit_of_not_mem _ _ _ _ _ y (k0_off3_eq ⟨k, h⟩) 1 (Or.inl hlt)).trans ?_
      exact ih (le_of_lt h) hlt
    · have hdiv : (y 1).val / 1024 = k := by omega
      have hmod : (y 1).val % 1024 = (y 1).val - 1024 * k := by omega
      refine (View.read_writes_cons_unit_of_mem _ _ _ _ _ y (ix2 (y 0) ⟨(y 1).val % 1024, Nat.mod_lt _ (by decide)⟩)
        (k0_off3_eq ⟨k, h⟩) (fun a => by
          match a with
          | 0 => show (y 0).val = 0 + (y 0).val; omega
          | 1 => show (y 1).val = 1024 * k + (y 1).val % 1024; omega)).trans ?_
      subst hdiv
      rw [allScores, dif_pos h]
      rfl

/-- After the loop the scratch holds the scores, whatever it held before. -/
theorem scratch_eq (fs : BufTy.Contents (Elt F) arg10.view.ty) :
    arg10.view.writes (Elt F) fs (st_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 k0_t1_loop.trips).2
      = harg10.unread (allScores v6 v63 x4) := by
  refine harg10.eq_unread (funext fun y => st1_read (F := F) 𝒱 c bd i arg1 harg1 arg2 harg2 arg3 harg3 arg4 harg4 arg5 harg5 arg6 harg6 arg7 harg7 arg8 harg8 arg9 harg9 arg10 harg10 v6 v63 x4 fs _ le_rfl y ?_)
  have := (y 1).isLt
  rw [trips1]
  exact this

end Cert.Kernel.Val

end
-- ==== Proof.KernelPieces.lean ====
/-
  WHAT THE RUN STORES, in closed form: each result's staging buffer gets one whole-block store, of the block `outY`, `outK`
  or `outV` of the blocks read. In particular nothing stored depends on what the scratch held before the run.

  (Of the program `Kernel`: module `Pieces` says the same of `KernelIdeal`, whose text is the same.)
-/
module

public import proofs.«01_k».proof.Proof.KernelRun
public import proofs.«01_k».proof.Proof.KernelScratch
public import Idealize.ShloMosaic.Lib.VecWindow
public import Idealize.ShloMosaic.Lib.Claim

@[expose] public section

-- membership in a rectangle of production extents (`View.cover_of_tiled`): the elaborator's structural look
-- recurses once per coordinate of the long axes
set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x32x128 .bf16) (harg1 : arg1.IsWhole) (arg2 : Memref sig .tc .vmem S1x4x128 .bf16) (harg2 : arg2.IsWhole) (arg3 : Memref sig .tc .vmem S1x4x128 .bf16) (harg3 : arg3.IsWhole) (arg4 : Memref sig .tc .vmem S4x32x128 .f32) (harg4 : arg4.IsWhole) (arg5 : Memref sig .tc .vmem S1x32768x128 .fp8e4m3) (harg5 : arg5.IsWhole) (arg6 : Memref sig .tc .vmem S1x32768x128 .fp8e4m3) (harg6 : arg6.IsWhole) (arg7 : Memref sig .tc .vmem S1x32x128 .bf16) (harg7 : arg7.IsWhole) (arg8 : Memref sig .tc .vmem S1x4x128 .fp8e4m3) (harg8 : arg8.IsWhole) (arg9 : Memref sig .tc .vmem S1x4x128 .fp8e4m3) (harg9 : arg9.IsWhole) (arg10 : Memref sig .tc .vmem S16x16384 .f32) (harg10 : arg10.IsWhole)
  (x0 : Vec F S1x32x128 .bf16) (x1 x2 : Vec F S1x4x128 .bf16) (x3 : Vec F S4x32x128 .f32) (x4 x5 : Vec F S1x32768x128 .fp8e4m3) (fs : BufTy.Contents (Elt F) arg10.view.ty)

theorem hz3 : (![0, 0, 0] : Fin 3 → Nat) = fun _ => 0 := by decide

/-- The attention output: one store of the whole block. -/
theorem pieces6 : (runAt (F := F) c i arg1 harg1 arg2 harg2 arg3 harg3 arg4 harg4 arg5 harg5 arg6 harg6 arg7 harg7 arg8 harg8 arg9 harg9 arg10 harg10 x0 x1 x2 x3 x4 x5 fs).1
    = [⟨Rect.unit (s := S1x32x128) ![0, 0, 0] S1x32x128.size inb_S1x32x128_S1x32x128_0_0_0, outY x0 x1 x2 x3 x4 x5⟩] := by
  unfold runAt
  dsimp only
  sl_unfold_words
  rw [scratch_eq]
  simp only [View.readAt_eq_ld, harg1.read_unread, harg2.read_unread, harg3.read_unread, harg4.read_unread,
    View.ld_unit_zero (S := S1x32x128) hz3, View.ld_unit_zero (S := S1x4x128) hz3]
  rw [st1_fst (hk := le_rfl)]
  rw [show k0_pay42 4#32 k0_pay39 k0_pay40 k0_pay41 = chunkHead from rfl]
  rw [st2_eq (hk := le_rfl)]
  rfl

/-- The key codes: one store of the whole block. -/
theorem pieces7 : (runAt (F := F) c i arg1 harg1 arg2 harg2 arg3 harg3 arg4 harg4 arg5 harg5 arg6 harg6 arg7 harg7 arg8 harg8 arg9 harg9 arg10 harg10 x0 x1 x2 x3 x4 x5 fs).2.1
    = [⟨Rect.unit (s := S1x4x128) ![0, 0, 0] S1x4x128.size inb_S1x4x128_S1x4x128_0_0_0, outK x1 x3⟩] := by
  unfold runAt
  dsimp only
  sl_unfold_words
  simp only [View.readAt_eq_ld, harg2.read_unread, harg4.read_unread, View.ld_unit_zero (S := S1x4x128) hz3]
  rfl

/-- The value codes: one store of the whole block. -/
theorem pieces8 : (runAt (F := F) c i arg1 harg1 arg2 harg2 arg3 harg3 arg4 harg4 arg5 harg5 arg6 harg6 arg7 harg7 arg8 harg8 arg9 harg9 arg10 harg10 x0 x1 x2 x3 x4 x5 fs).2.2.1
    = [⟨Rect.unit (s := S1x4x128) ![0, 0, 0] S1x4x128.size inb_S1x4x128_S1x4x128_0_0_0, outV x2 x3⟩] := by
  unfold runAt
  dsimp only
  sl_unfold_words
  simp only [View.readAt_eq_ld, harg3.read_unread, harg4.read_unread, View.ld_unit_zero (S := S1x4x128) hz3]
  rfl

end Cert.Kernel.Val

end
-- ==== Proof.KernelBody.lean ====
/-
  THE KERNEL'S RUN: the body's triple at every grid point (the inputs' staging buffers hold their blocks, the results'
  end with the blocks of module `Block`, the scratch is handed over at any contents and taken back at any), hence the
  launch, and the frame of the whole program.

  (Of the program `Kernel`: module `Body` says the same of `KernelIdeal`, whose text is the same.)
-/
module

public import proofs.«01_k».proof.Proof.KernelPieces
public import Idealize.ShloMosaic.Lib.Claim

@[expose] public section

-- membership in a rectangle of production extents (`View.cover_of_tiled`): the elaborator's structural look
-- recurses once per coordinate of the long axes
set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at the three blocks of module `Block`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outY (iblk m c 0 t) (iblk m c 1 t) (iblk m c 2 t) (iblk m c 3 t) (iblk m c 4 t) (iblk m c 5 t)
    | ⟨7, _⟩ => outK (iblk m c 1 t) (iblk m c 3 t)
    | ⟨8, _⟩ => outV (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outY (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outK (iblk m c 1 t) (iblk m c 3 t) := by dsimp only [dats]
theorem after0_8 (c : Dev nD) (t : Fin cfg0.N) : (dats m 0 c).after 8 t = outV (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  rw [show owns (Val := Elt F) (c.tc : Thread nD τ) scM0_0 fullShare = fun d => iprop(∃ f, ⌜scM0_0.view.read (Elt F) f = d⌝ ∗ (scM0_0.view.loc (c.tc : Thread nD τ) ↦[scM0_0.view.set]{fullShare} f)) from rfl]
  iintro ⟨⟨⟨%ds, %fs, -, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt c (grid0.coords t) _ _ _ _ _ _ _ _ _ _ _ _ _ _ _ _ _ _ _ _ (iblk m c 0 t) (iblk m c 1 t) (iblk m c 2 t) (iblk m c 3 t) (iblk m c 4 t) (iblk m c 5 t) fs).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  iintro ⟨H0, H1, H2, H3, H4, H5, ⟨%e6, H6⟩, ⟨%e7, H7⟩, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [pieces6]; exact View.read_writes_full _ _ _ _ _
  isplitl [H7]
  · unfold owns; iexists _; isplitr
    swap; · iexact H7
    ipureintro; rw [pieces7]; exact View.read_writes_full _ _ _ _ _
  unfold owns; iexists _; isplitr
  swap; · iexact H8
  ipureintro; rw [pieces8]; exact View.read_writes_full _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: every run of the program ends, with its seven arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Val

end
-- ==== Proof.Run.lean ====
/-
  ONE RUN OF THE KERNEL'S BODY, from ANY contents of the scratch buffer.

  The body fills its scratch buffer (the scores, one [16,1024] strip per trip of its first loop) before it reads it
  back (the second loop). What it stores into its three results is found by running it; here the scratch's contents
  before the run are a PARAMETER `fs`, so the stored values may mention them. Module `Scratch` shows that they do not
  depend on them.
-/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each result's staging memref, as pieces, WITH the proof that on whole staging
    memrefs — the inputs' at their contents, the results' at anything, the scratch at `fs` — the body runs to the
    continuation holding the inputs' as they were, the scratch at some contents, each result's buffer with its pieces
    written. -/
noncomputable def runAt (c : Dev nD) (i : grid0.Coords) (arg1 : Memref sig .tc .vmem S1x32x128 .bf16) (harg1 : arg1.IsWhole) (arg2 : Memref sig .tc .vmem S1x4x128 .bf16) (harg2 : arg2.IsWhole) (arg3 : Memref sig .tc .vmem S1x4x128 .bf16) (harg3 : arg3.IsWhole) (arg4 : Memref sig .tc .vmem S4x32x128 .f32) (harg4 : arg4.IsWhole) (arg5 : Memref sig .tc .vmem S1x32768x128 .fp8e4m3) (harg5 : arg5.IsWhole) (arg6 : Memref sig .tc .vmem S1x32768x128 .fp8e4m3) (harg6 : arg6.IsWhole) (arg7 : Memref sig .tc .vmem S1x32x128 .bf16) (harg7 : arg7.IsWhole) (arg8 : Memref sig .tc .vmem S1x4x128 .fp8e4m3) (harg8 : arg8.IsWhole) (arg9 : Memref sig .tc .vmem S1x4x128 .fp8e4m3) (harg9 : arg9.IsWhole) (arg10 : Memref sig .tc .vmem S16x16384 .f32) (harg10 : arg10.IsWhole)
    (x0 : Vec F S1x32x128 .bf16) (x1 : Vec F S1x4x128 .bf16) (x2 : Vec F S1x4x128 .bf16) (x3 : Vec F S4x32x128 .f32) (x4 : Vec F S1x32768x128 .fp8e4m3) (x5 : Vec F S1x32768x128 .fp8e4m3) (fs : BufTy.Contents (Elt F) arg10.view.ty) :
    Σ' (L6 : List (View.Piece (Elt F) S1x32x128 .bf16)), Σ' (L7 : List (View.Piece (Elt F) S1x4x128 .fp8e4m3)), { L8 : List (View.Piece (Elt F) S1x4x128 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (arg10.view.loc (c : Thread nD τ) ↦[arg10.view.set]{fullShare} fs)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d)) -∗ K ⟨⟩))
          ⊢ wp frame (wpE (defs₀ (F := F)) Variants.none c none) E (cc0__attend i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__attend_eq_skeleton]; unfold cc0__attend_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, HS0, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _, _; isplitr; swap; · iexact HS0
    ipureintro; rfl

end Cert.KernelIdeal.Val

end
-- ==== Proof.Block.lean ====
/-
  THE BODY'S VALUES, as functions of the blocks it reads (one sequence of the batch).

  `x0` is the query block [1,32,128], `x1` and `x2` the new token's key and value blocks [1,4,128], `x3` the parameters
  [4,32,128] (key scale, value scale, and their quantising inverses, one row per KV head, repeated), `x4` and `x5` the key
  and value codes [1,32768,128]. Each definition names one value of the body: the two scale tiles, one trip of the first
  loop (scores and running maximum), one trip of the second (weights, their sums, the weighted values), and the three
  blocks stored.
-/
module

public import proofs.«01_k».proof.Proof.Gen.KernelIdeal.Skeleton
public import Idealize.ShloMosaic.Lib.Pointwise
public import Idealize.ShloMosaic.Lib.Pipeline.FrameBody

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

variable {F : FTy → Type} [FloatOps F]

/-- Key scales, one row per sublane, as the body multiplies them to key codes. -/
def keyTile (x3 : Vec F S4x32x128 .f32) : FVec F S16x128 .bf16 :=
  k0_pay29 (View.ld x3 (Rect.unit (s := S4x32x128) ![0, 0, 0] S1x32x128.size inb_S4x32x128_S1x32x128_0_0_0))

/-- Value scales, one row per sublane. -/
def valueTile (x3 : Vec F S4x32x128 .f32) : FVec F S16x128 .bf16 :=
  k0_pay30 (View.ld x3 (Rect.unit (s := S4x32x128) ![1, 0, 0] S1x32x128.size inb_S4x32x128_S1x32x128_1_0_0))

/-- The KV head of each lane of a chunk: `lane % 4`. -/
def chunkHead : IVec S8x1024 32 := k0_pay42 4#32 k0_pay39 k0_pay40 k0_pay41

/-- Rows `1024 k … 1024 k + 1023` of a cache block: trip `k`'s chunk of the first half. -/
def loChunk (x : Vec F S1x32768x128 .fp8e4m3) (k : Fin k0_t1_loop.trips) : Vec F S1x1024x128 .fp8e4m3 :=
  View.ld x (Rect.unit (s := S1x32768x128) (k0_off1 k) S1x1024x128.size (k0_off1_inb k))

/-- Rows `16384 + 1024 k …`: trip `k`'s chunk of the second half. -/
def hiChunk (x : Vec F S1x32768x128 .fp8e4m3) (k : Fin k0_t1_loop.trips) : Vec F S1x1024x128 .fp8e4m3 :=
  View.ld x (Rect.unit (s := S1x32768x128) (k0_off2 k) S1x1024x128.size (k0_off2_inb k))

/-- The same two chunks as the second loop reads them. -/
def loChunk2 (x : Vec F S1x32768x128 .fp8e4m3) (k : Fin k0_t2_loop.trips) : Vec F S1x1024x128 .fp8e4m3 :=
  View.ld x (Rect.unit (s := S1x32768x128) (k0_off5 k) S1x1024x128.size (k0_off5_inb k))

def hiChunk2 (x : Vec F S1x32768x128 .fp8e4m3) (k : Fin k0_t2_loop.trips) : Vec F S1x1024x128 .fp8e4m3 :=
  View.ld x (Rect.unit (s := S1x32768x128) (k0_off6 k) S1x1024x128.size (k0_off6_inb k))

/-- The scores of two chunks: each lane keeps the eight query rows of its own KV head; rows 0–7 are the first chunk's,
    rows 8–15 the second's. -/
def strip (v6 : FVec F S16x128 .bf16) (v63 : FVec F S64x256 .bf16) (a b : Vec F S1x1024x128 .fp8e4m3) : FVec F S16x1024 .f32 :=
  k0_pay45 4#32 k0_pay39 k0_pay40 k0_pay41 (k0_pay3 v6 v63 a b) (k0_pay4 v6 v63 a b) (k0_pay5 v6 v63 a b)
    (k0_pay6 v6 v63 a b) (k0_pay7 v6 v63 chunkHead a b) (k0_pay8 chunkHead) (k0_pay9 chunkHead) k0_pay10

/-- The running maximum after one more trip: its eight slices of 128 lanes folded in. -/
def maxStep (v6 : FVec F S16x128 .bf16) (v63 : FVec F S64x256 .bf16) (a b : Vec F S1x1024x128 .fp8e4m3)
    (acc : FVec F S16x128 .f32) : FVec F S16x128 .f32 :=
  k0_pay47 4#32 k0_pay39 k0_pay40 k0_pay41 acc (k0_pay3 v6 v63 a b) (k0_pay4 v6 v63 a b) (k0_pay5 v6 v63 a b)
    (k0_pay6 v6 v63 a b) (k0_pay7 v6 v63 chunkHead a b) (k0_pay8 chunkHead) (k0_pay9 chunkHead) k0_pay10

/-- The running maximum before trip `k` of the first loop. -/
def maxAt (v6 : FVec F S16x128 .bf16) (v63 : FVec F S64x256 .bf16) (x4 : Vec F S1x32768x128 .fp8e4m3) : ℕ → FVec F S16x128 .f32
  | 0 => k0_pay44
  | k + 1 => if h : k < k0_t1_loop.trips then
      maxStep v6 v63 (loChunk x4 ⟨k, h⟩) (hiChunk x4 ⟨k, h⟩) (maxAt v6 v63 x4 k) else maxAt v6 v63 x4 k

/-- All scores, as the scratch buffer holds them after the first loop: column `w` is lane `w % 1024` of trip `w / 1024`. -/
def allScores (v6 : FVec F S16x128 .bf16) (v63 : FVec F S64x256 .bf16) (x4 : Vec F S1x32768x128 .fp8e4m3) : Vec F S16x16384 .f32 :=
  fun y => if h : (y 1).val / 1024 < k0_t1_loop.trips then
      strip v6 v63 (loChunk x4 ⟨_, h⟩) (hiChunk x4 ⟨_, h⟩) (ix2 (y 0) ⟨(y 1).val % 1024, Nat.mod_lt _ (by decide)⟩)
    else Scalar.ofBits .f32 0x00000000#32

/-- Columns `1024 k …` of the scratch: the strip trip `k` of the second loop reads. -/
def scoreChunk (s : Vec F S16x16384 .f32) (k : Fin k0_t2_loop.trips) : Vec F S16x1024 .f32 :=
  View.ld s (Rect.unit (s := S16x16384) (k0_off4 k) S16x1024.size (k0_off4_inb k))

/-- The sums of the weights after one more trip (each lane its own). -/
def sumStep (mx : FVec F S16x128 .f32) (s : Vec F S16x1024 .f32) (l : FVec F S16x128 .f32) : FVec F S16x128 .f32 :=
  k0_pay19 mx l s

/-- The weighted values after one more trip: masked weights times dequantised value rows. -/
def accStep (v7 : FVec F S16x128 .bf16) (mx : FVec F S16x128 .f32) (s : Vec F S16x1024 .f32) (a b : Vec F S1x1024x128 .fp8e4m3)
    (acc : FVec F S64x256 .f32) : FVec F S64x256 .f32 :=
  k0_pay56 v7 acc (k0_pay24 chunkHead (k0_pay20 mx s) (k0_pay21 chunkHead mx s) (k0_pay22 chunkHead mx s) (k0_pay23 chunkHead mx s))
    (k0_pay25 v7 a) (k0_pay26 b)

/-- What the second loop carries before trip `k`. -/
def weightedAt (v7 : FVec F S16x128 .bf16) (mx : FVec F S16x128 .f32) (s : Vec F S16x16384 .f32) (x5 : Vec F S1x32768x128 .fp8e4m3) :
    ℕ → FVec F S16x128 .f32 × FVec F S64x256 .f32
  | 0 => (k0_pay54, k0_pay55)
  | k + 1 => if h : k < k0_t2_loop.trips then
      (sumStep mx (scoreChunk s ⟨k, h⟩) (weightedAt v7 mx s x5 k).1,
        accStep v7 mx (scoreChunk s ⟨k, h⟩) (loChunk2 x5 ⟨k, h⟩) (hiChunk2 x5 ⟨k, h⟩) (weightedAt v7 mx s x5 k).2)
    else weightedAt v7 mx s x5 k

/-- The new token's key codes [4,128]. -/
def keyCodes (x1 : Vec F S1x4x128 .bf16) (x3 : Vec F S4x32x128 .f32) : FVec F S4x128 .fp8e4m3 :=
  k0_pay31 x1 (View.ld x3 (Rect.unit (s := S4x32x128) ![2, 0, 0] S1x4x128.size inb_S4x32x128_S1x4x128_2_0_0))

/-- The new token's value codes [4,128]. -/
def valueCodes (x2 : Vec F S1x4x128 .bf16) (x3 : Vec F S4x32x128 .f32) : FVec F S4x128 .fp8e4m3 :=
  k0_pay32 x2 (View.ld x3 (Rect.unit (s := S4x32x128) ![3, 0, 0] S1x4x128.size inb_S4x32x128_S1x4x128_3_0_0))

/-- The new token's score per query head [32,1]. -/
def newScore (x0 : Vec F S1x32x128 .bf16) (x1 : Vec F S1x4x128 .bf16) (x3 : Vec F S4x32x128 .f32) : FVec F S32x1 .f32 :=
  k0_pay37 (k0_pay27 (View.ld x3 (Rect.unit (s := S4x32x128) ![0, 0, 0] S1x32x128.size inb_S4x32x128_S1x32x128_0_0_0)))
    (keyCodes x1 x3) x0

/-- The new token's value row per query head [32,128]. -/
def newValue (x2 : Vec F S1x4x128 .bf16) (x3 : Vec F S4x32x128 .f32) : FVec F S32x128 .f32 :=
  k0_pay35 (k0_pay28 (View.ld x3 (Rect.unit (s := S4x32x128) ![1, 0, 0] S1x32x128.size inb_S4x32x128_S1x32x128_1_0_0)))
    (valueCodes x2 x3)

/-- The running maximum after the whole first loop. -/
def maxAll (x0 : Vec F S1x32x128 .bf16) (x3 : Vec F S4x32x128 .f32) (x4 : Vec F S1x32768x128 .fp8e4m3) : FVec F S16x128 .f32 :=
  maxAt (keyTile x3) (k0_pay38 x0) x4 k0_t1_loop.trips

/-- The maximum per query head [32,1], the new token's score included. -/
def maxCol (x0 : Vec F S1x32x128 .bf16) (x1 : Vec F S1x4x128 .bf16) (x3 : Vec F S4x32x128 .f32) (x4 : Vec F S1x32768x128 .fp8e4m3) :
    FVec F S32x1 .f32 :=
  k0_pay52 (newScore x0 x1 x3) k0_pay43 (k0_pay48 (maxAll x0 x3 x4)) (k0_pay49 (maxAll x0 x3 x4)) (k0_pay50 (maxAll x0 x3 x4))
    k0_pay51 (Scalar.ofBits .f32 0xFF800000#32)

/-- The same maximum laid out by lanes [16,128]. -/
def maxLane (x0 : Vec F S1x32x128 .bf16) (x1 : Vec F S1x4x128 .bf16) (x3 : Vec F S4x32x128 .f32) (x4 : Vec F S1x32768x128 .fp8e4m3) :
    FVec F S16x128 .f32 :=
  k0_pay53 (newScore x0 x1 x3) k0_pay43 (k0_pay48 (maxAll x0 x3 x4)) (k0_pay49 (maxAll x0 x3 x4)) (k0_pay50 (maxAll x0 x3 x4))
    k0_pay51 (Scalar.ofBits .f32 0xFF800000#32)

/-- What the second loop ends with. -/
def weighted (x0 : Vec F S1x32x128 .bf16) (x1 : Vec F S1x4x128 .bf16) (x3 : Vec F S4x32x128 .f32) (x4 x5 : Vec F S1x32768x128 .fp8e4m3) :
    FVec F S16x128 .f32 × FVec F S64x256 .f32 :=
  weightedAt (valueTile x3) (maxLane x0 x1 x3 x4) (allScores (keyTile x3) (k0_pay38 x0) x4) x5 k0_t2_loop.trips

/-- The attention output's block. -/
def outY (x0 : Vec F S1x32x128 .bf16) (x1 x2 : Vec F S1x4x128 .bf16) (x3 : Vec F S4x32x128 .f32) (x4 x5 : Vec F S1x32768x128 .fp8e4m3) :
    FVec F S1x32x128 .bf16 :=
  k0_pay1 (newValue x2 x3) (newScore x0 x1 x3) k0_pay43 (maxCol x0 x1 x3 x4) (weighted x0 x1 x3 x4 x5).2
    (k0_pay57 (weighted x0 x1 x3 x4 x5).1) (k0_pay58 k0_pay43 (weighted x0 x1 x3 x4 x5).1)

/-- The key codes' block. -/
def outK (x1 : Vec F S1x4x128 .bf16) (x3 : Vec F S4x32x128 .f32) : FVec F S1x4x128 .fp8e4m3 :=
  k0_pay33 x1 (View.ld x3 (Rect.unit (s := S4x32x128) ![2, 0, 0] S1x4x128.size inb_S4x32x128_S1x4x128_2_0_0))

/-- The value codes' block. -/
def outV (x2 : Vec F S1x4x128 .bf16) (x3 : Vec F S4x32x128 .f32) : FVec F S1x4x128 .fp8e4m3 := k0_pay34 (valueCodes x2 x3)

end Cert.KernelIdeal.Val

end
-- ==== Proof.LoopForms.lean ====
/-
  THE TWO LOOPS, in closed form: what the first loop leaves in the scratch buffer and carries out, and what the second
  carries out when it reads that scratch.
-/
module

public import proofs.«01_k».proof.Proof.Gen.KernelIdeal.Loops
public import proofs.«01_k».proof.Proof.Block

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

variable {F : FTy → Type} [FloatOps F]

variable (𝒱 : Variants) (c : Dev nD) (bd : Option 𝒱.V) (i : grid0.Coords) (arg1 : Memref sig .tc .vmem S1x32x128 .bf16) (harg1 : arg1.IsWhole) (arg2 : Memref sig .tc .vmem S1x4x128 .bf16) (harg2 : arg2.IsWhole) (arg3 : Memref sig .tc .vmem S1x4x128 .bf16) (harg3 : arg3.IsWhole) (arg4 : Memref sig .tc .vmem S4x32x128 .f32) (harg4 : arg4.IsWhole) (arg5 : Memref sig .tc .vmem S1x32768x128 .fp8e4m3) (harg5 : arg5.IsWhole) (arg6 : Memref sig .tc .vmem S1x32768x128 .fp8e4m3) (harg6 : arg6.IsWhole) (arg7 : Memref sig .tc .vmem S1x32x128 .bf16) (harg7 : arg7.IsWhole) (arg8 : Memref sig .tc .vmem S1x4x128 .fp8e4m3) (harg8 : arg8.IsWhole) (arg9 : Memref sig .tc .vmem S1x4x128 .fp8e4m3) (harg9 : arg9.IsWhole) (arg10 : Memref sig .tc .vmem S16x16384 .f32) (harg10 : arg10.IsWhole)

section First

variable (v6 : FVec F S16x128 .bf16) (v63 : FVec F S64x256 .bf16) (x4 : Vec F S1x32768x128 .fp8e4m3)

/-- One trip of the first loop yields the running maximum with its strip folded in. -/
theorem tripR1_eq (k : Fin k0_t1_loop.trips) (acc : FVec F S16x128 .f32) :
    tripR_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k acc
      = maxStep v6 v63 (loChunk x4 k) (hiChunk x4 k) acc := by
  unfold tripR_k0_t1 trip_k0_t1
  dsimp only
  sl_unfold_words
  simp only [View.readAt_eq_ld, harg5.read_unread]
  rfl

/-- One trip of the first loop stores its strip, at its own columns. -/
theorem tripL1_eq (k : Fin k0_t1_loop.trips) (acc : FVec F S16x128 .f32) :
    tripL_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k acc
      = [⟨Rect.unit (s := S16x16384) (k0_off3 k) S16x1024.size (k0_off3_inb k), strip v6 v63 (loChunk x4 k) (hiChunk x4 k)⟩] := by
  unfold tripL_k0_t1 trip_k0_t1
  dsimp only
  sl_unfold_words
  simp only [View.readAt_eq_ld, harg5.read_unread]
  unfold k0_pay46
  simp only [shapeCast_self]
  rfl

end First

section Second

variable (v7 : FVec F S16x128 .bf16) (v59 : FVec F S32x1 .f32) (v97 : IVec S8x128 32) (v103 : FVec F S8x128 .f32) (v109 : FVec F S8x1 .f32)
  (v115 : FVec F S8x1 .f32) (v117 : IVec S8x128 1) (cst_48 : F .f32) (x5 : Vec F S1x32768x128 .fp8e4m3) (s : Vec F S16x16384 .f32)

/-- One trip of the second loop. -/
theorem tripR2_eq (k : Fin k0_t2_loop.trips) (acc : FVec F S16x128 .f32 × FVec F S64x256 .f32) :
    tripR_k0_t2 (F := F) 𝒱 c bd i arg1 harg1 arg2 harg2 arg3 harg3 arg4 harg4 arg5 harg5 arg6 harg6 arg7 harg7 arg8 harg8 arg9 harg9 arg10 harg10 v7 v59 chunkHead v97 v103 v109 v115 v117 cst_48 (harg6.unread x5) (harg10.unread s) k acc
      = (sumStep (k0_pay53 v59 v97 v103 v109 v115 v117 cst_48) (scoreChunk s k) acc.1,
          accStep v7 (k0_pay53 v59 v97 v103 v109 v115 v117 cst_48) (scoreChunk s k) (loChunk2 x5 k) (hiChunk2 x5 k) acc.2) := by
  unfold tripR_k0_t2 trip_k0_t2
  dsimp only
  sl_unfold_words
  simp only [View.readAt_eq_ld, harg6.read_unread, harg10.read_unread]
  rfl

/-- The second loop's state before trip `k`. -/
theorem st2_eq (k : ℕ) (hk : k ≤ k0_t2_loop.trips) :
    st_k0_t2 (F := F) 𝒱 c bd i arg1 harg1 arg2 harg2 arg3 harg3 arg4 harg4 arg5 harg5 arg6 harg6 arg7 harg7 arg8 harg8 arg9 harg9 arg10 harg10 v7 v59 chunkHead v97 v103 v109 v115 v117 cst_48 (harg6.unread x5) (harg10.unread s) (k0_pay54, k0_pay55) k
      = weightedAt v7 (k0_pay53 v59 v97 v103 v109 v115 v117 cst_48) s x5 k := by
  induction k with
  | zero => rfl
  | succ k ih =>
    have h : k < k0_t2_loop.trips := hk
    refine (st_k0_t2_succ (F := F) 𝒱 c bd i arg1 harg1 arg2 harg2 arg3 harg3 arg4 harg4 arg5 harg5 arg6 harg6 arg7 harg7 arg8 harg8 arg9 harg9 arg10 harg10 v7 v59 chunkHead v97 v103 v109 v115 v117 cst_48 (harg6.unread x5) (harg10.unread s) (k0_pay54, k0_pay55) ⟨k, h⟩).trans ?_
    rw [tripR2_eq]
    dsimp only
    rw [ih (le_of_lt h), weightedAt, dif_pos h]

end Second

end Cert.KernelIdeal.Val

end
-- ==== Proof.Scratch.lean ====
/-
  THE SCRATCH BUFFER AFTER THE FIRST LOOP. Sixteen strips of 1024 columns fill its 16384 columns, so whatever it held
  before, it holds all the scores after; and the loop carries out the running maximum.
-/
module

public import proofs.«01_k».proof.Proof.LoopForms
public import Idealize.ShloMosaic.Lib.WritesUnit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

variable {F : FTy → Type} [FloatOps F]

theorem trips1 : k0_t1_loop.trips = 16 := by decide +kernel

theorem trips2 : k0_t2_loop.trips = 16 := by decide +kernel

variable (𝒱 : Variants) (c : Dev nD) (bd : Option 𝒱.V) (i : grid0.Coords) (arg1 : Memref sig .tc .vmem S1x32x128 .bf16) (harg1 : arg1.IsWhole) (arg2 : Memref sig .tc .vmem S1x4x128 .bf16) (harg2 : arg2.IsWhole) (arg3 : Memref sig .tc .vmem S1x4x128 .bf16) (harg3 : arg3.IsWhole) (arg4 : Memref sig .tc .vmem S4x32x128 .f32) (harg4 : arg4.IsWhole) (arg5 : Memref sig .tc .vmem S1x32768x128 .fp8e4m3) (harg5 : arg5.IsWhole) (arg6 : Memref sig .tc .vmem S1x32768x128 .fp8e4m3) (harg6 : arg6.IsWhole) (arg7 : Memref sig .tc .vmem S1x32x128 .bf16) (harg7 : arg7.IsWhole) (arg8 : Memref sig .tc .vmem S1x4x128 .fp8e4m3) (harg8 : arg8.IsWhole) (arg9 : Memref sig .tc .vmem S1x4x128 .fp8e4m3) (harg9 : arg9.IsWhole) (arg10 : Memref sig .tc .vmem S16x16384 .f32) (harg10 : arg10.IsWhole)

variable (v6 : FVec F S16x128 .bf16) (v63 : FVec F S64x256 .bf16) (x4 : Vec F S1x32768x128 .fp8e4m3)

/-- What the first loop carries before trip `k`. -/
theorem st1_fst (k : ℕ) (hk : k ≤ k0_t1_loop.trips) :
    (st_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 k).1 = maxAt v6 v63 x4 k := by
  induction k with
  | zero => rfl
  | succ k ih =>
    have h : k < k0_t1_loop.trips := hk
    rw [show st_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 (k + 1) = _ from
      st_k0_t1_succ (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 ⟨k, h⟩]
    dsimp only
    rw [tripR1_eq, ih (le_of_lt h), maxAt, dif_pos h]

/-- Before trip `k` the first `1024 k` columns of the scratch hold the scores. -/
theorem st1_read (fs : BufTy.Contents (Elt F) arg10.view.ty) (k : ℕ) (hk : k ≤ k0_t1_loop.trips) (y : S16x16384.Idx)
    (hy : (y 1).val < 1024 * k) :
    arg10.view.read (Elt F) (arg10.view.writes (Elt F) fs (st_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 k).2) y
      = allScores v6 v63 x4 y := by
  induction k with
  | zero => omega
  | succ k ih =>
    have h : k < k0_t1_loop.trips := hk
    rw [show st_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 (k + 1) = _ from
      st_k0_t1_succ (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 ⟨k, h⟩]
    dsimp only
    rw [tripL1_eq, List.singleton_append]
    by_cases hlt : (y 1).val < 1024 * k
    · refine (View.read_writes_cons_unit_of_not_mem _ _ _ _ _ y (k0_off3_eq ⟨k, h⟩) 1 (Or.inl hlt)).trans ?_
      exact ih (le_of_lt h) hlt
    · have hdiv : (y 1).val / 1024 = k := by omega
      have hmod : (y 1).val % 1024 = (y 1).val - 1024 * k := by omega
      refine (View.read_writes_cons_unit_of_mem _ _ _ _ _ y (ix2 (y 0) ⟨(y 1).val % 1024, Nat.mod_lt _ (by decide)⟩)
        (k0_off3_eq ⟨k, h⟩) (fun a => by
          match a with
          | 0 => show (y 0).val = 0 + (y 0).val; omega
          | 1 => show (y 1).val = 1024 * k + (y 1).val % 1024; omega)).trans ?_
      subst hdiv
      rw [allScores, dif_pos h]
      rfl

/-- After the loop the scratch holds the scores, whatever it held before. -/
theorem scratch_eq (fs : BufTy.Contents (Elt F) arg10.view.ty) :
    arg10.view.writes (Elt F) fs (st_k0_t1 (F := F) 𝒱 c bd i arg1 harg1 arg2 harg2 arg3 harg3 arg4 harg4 arg5 harg5 arg6 harg6 arg7 harg7 arg8 harg8 arg9 harg9 arg10 harg10 v6 v63 4#32 k0_pay39 k0_pay40 k0_pay41 (harg5.unread x4) k0_pay44 k0_t1_loop.trips).2
      = harg10.unread (allScores v6 v63 x4) := by
  refine harg10.eq_unread (funext fun y => st1_read (F := F) 𝒱 c bd i arg1 harg1 arg2 harg2 arg3 harg3 arg4 harg4 arg5 harg5 arg6 harg6 arg7 harg7 arg8 harg8 arg9 harg9 arg10 harg10 v6 v63 x4 fs _ le_rfl y ?_)
  have := (y 1).isLt
  rw [trips1]
  exact this

end Cert.KernelIdeal.Val

end
-- ==== Proof.Pieces.lean ====
/-
  WHAT THE RUN STORES, in closed form: each result's staging buffer gets one whole-block store, of the block `outY`, `outK`
  or `outV` of the blocks read. In particular nothing stored depends on what the scratch held before the run.
-/
module

public import proofs.«01_k».proof.Proof.Run
public import proofs.«01_k».proof.Proof.Scratch
public import Idealize.ShloMosaic.Lib.VecWindow
public import Idealize.ShloMosaic.Lib.Claim

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x32x128 .bf16) (harg1 : arg1.IsWhole) (arg2 : Memref sig .tc .vmem S1x4x128 .bf16) (harg2 : arg2.IsWhole) (arg3 : Memref sig .tc .vmem S1x4x128 .bf16) (harg3 : arg3.IsWhole) (arg4 : Memref sig .tc .vmem S4x32x128 .f32) (harg4 : arg4.IsWhole) (arg5 : Memref sig .tc .vmem S1x32768x128 .fp8e4m3) (harg5 : arg5.IsWhole) (arg6 : Memref sig .tc .vmem S1x32768x128 .fp8e4m3) (harg6 : arg6.IsWhole) (arg7 : Memref sig .tc .vmem S1x32x128 .bf16) (harg7 : arg7.IsWhole) (arg8 : Memref sig .tc .vmem S1x4x128 .fp8e4m3) (harg8 : arg8.IsWhole) (arg9 : Memref sig .tc .vmem S1x4x128 .fp8e4m3) (harg9 : arg9.IsWhole) (arg10 : Memref sig .tc .vmem S16x16384 .f32) (harg10 : arg10.IsWhole)
  (x0 : Vec F S1x32x128 .bf16) (x1 x2 : Vec F S1x4x128 .bf16) (x3 : Vec F S4x32x128 .f32) (x4 x5 : Vec F S1x32768x128 .fp8e4m3) (fs : BufTy.Contents (Elt F) arg10.view.ty)

theorem hz3 : (![0, 0, 0] : Fin 3 → Nat) = fun _ => 0 := by decide

/-- The attention output: one store of the whole block. -/
theorem pieces6 : (runAt (F := F) c i arg1 harg1 arg2 harg2 arg3 harg3 arg4 harg4 arg5 harg5 arg6 harg6 arg7 harg7 arg8 harg8 arg9 harg9 arg10 harg10 x0 x1 x2 x3 x4 x5 fs).1
    = [⟨Rect.unit (s := S1x32x128) ![0, 0, 0] S1x32x128.size inb_S1x32x128_S1x32x128_0_0_0, outY x0 x1 x2 x3 x4 x5⟩] := by
  unfold runAt
  dsimp only
  sl_unfold_words
  rw [scratch_eq]
  simp only [View.readAt_eq_ld, harg1.read_unread, harg2.read_unread, harg3.read_unread, harg4.read_unread,
    View.ld_unit_zero (S := S1x32x128) hz3, View.ld_unit_zero (S := S1x4x128) hz3]
  rw [st1_fst (hk := le_rfl)]
  rw [show k0_pay42 4#32 k0_pay39 k0_pay40 k0_pay41 = chunkHead from rfl]
  rw [st2_eq (hk := le_rfl)]
  rfl

/-- The key codes: one store of the whole block. -/
theorem pieces7 : (runAt (F := F) c i arg1 harg1 arg2 harg2 arg3 harg3 arg4 harg4 arg5 harg5 arg6 harg6 arg7 harg7 arg8 harg8 arg9 harg9 arg10 harg10 x0 x1 x2 x3 x4 x5 fs).2.1
    = [⟨Rect.unit (s := S1x4x128) ![0, 0, 0] S1x4x128.size inb_S1x4x128_S1x4x128_0_0_0, outK x1 x3⟩] := by
  unfold runAt
  dsimp only
  sl_unfold_words
  simp only [View.readAt_eq_ld, harg2.read_unread, harg4.read_unread, View.ld_unit_zero (S := S1x4x128) hz3]
  rfl

/-- The value codes: one store of the whole block. -/
theorem pieces8 : (runAt (F := F) c i arg1 harg1 arg2 harg2 arg3 harg3 arg4 harg4 arg5 harg5 arg6 harg6 arg7 harg7 arg8 harg8 arg9 harg9 arg10 harg10 x0 x1 x2 x3 x4 x5 fs).2.2.1
    = [⟨Rect.unit (s := S1x4x128) ![0, 0, 0] S1x4x128.size inb_S1x4x128_S1x4x128_0_0_0, outV x2 x3⟩] := by
  unfold runAt
  dsimp only
  sl_unfold_words
  simp only [View.readAt_eq_ld, harg3.read_unread, harg4.read_unread, View.ld_unit_zero (S := S1x4x128) hz3]
  rfl

end Cert.KernelIdeal.Val

end
-- ==== Proof.Body.lean ====
/-
  THE KERNEL'S RUN: the body's triple at every grid point (the inputs' staging buffers hold their blocks, the results'
  end with the blocks of module `Block`, the scratch is handed over at any contents and taken back at any), hence the
  launch, and the frame of the whole program.
-/
module

public import proofs.«01_k».proof.Proof.Pieces
public import Idealize.ShloMosaic.Lib.Claim

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at the three blocks of module `Block`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outY (iblk m c 0 t) (iblk m c 1 t) (iblk m c 2 t) (iblk m c 3 t) (iblk m c 4 t) (iblk m c 5 t)
    | ⟨7, _⟩ => outK (iblk m c 1 t) (iblk m c 3 t)
    | ⟨8, _⟩ => outV (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outY (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outK (iblk m c 1 t) (iblk m c 3 t) := by dsimp only [dats]
theorem after0_8 (c : Dev nD) (t : Fin cfg0.N) : (dats m 0 c).after 8 t = outV (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  rw [show owns (Val := Elt F) (c.tc : Thread nD τ) scM0_0 fullShare = fun d => iprop(∃ f, ⌜scM0_0.view.read (Elt F) f = d⌝ ∗ (scM0_0.view.loc (c.tc : Thread nD τ) ↦[scM0_0.view.set]{fullShare} f)) from rfl]
  iintro ⟨⟨⟨%ds, %fs, -, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt c (grid0.coords t) _ _ _ _ _ _ _ _ _ _ _ _ _ _ _ _ _ _ _ _ (iblk m c 0 t) (iblk m c 1 t) (iblk m c 2 t) (iblk m c 3 t) (iblk m c 4 t) (iblk m c 5 t) fs).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  iintro ⟨H0, H1, H2, H3, H4, H5, ⟨%e6, H6⟩, ⟨%e7, H7⟩, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [pieces6]; exact View.read_writes_full _ _ _ _ _
  isplitl [H7]
  · unfold owns; iexists _; isplitr
    swap; · iexact H7
    ipureintro; rw [pieces7]; exact View.read_writes_full _ _ _ _ _
  unfold owns; iexists _; isplitr
  swap; · iexact H8
  ipureintro; rw [pieces8]; exact View.read_writes_full _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: every run of the program ends, with its seven arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Val

end
-- ==== Proof.Heads.lean ====
/-
  WHICH KV HEAD A LANE BELONGS TO: the body's lane-index arithmetic (an iota, reduced modulo four by the usual
  sign-corrected remainder), and its comparisons with a head number.
-/
module

public import proofs.«01_k».proof.Proof.Block

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

/-- The KV head of lane `w` of a chunk is `w % 4`. -/
theorem chunkHead_apply (r : Fin 8) (w : Fin 1024) : chunkHead (ix2 r w) = BitVec.ofNat 32 (w.val % 4) := by
  revert w
  revert r
  decide +kernel

/-- The KV head of lane `w` of a 128-lane row is `w % 4`. -/
theorem laneHead_apply (r : Fin 8) (w : Fin 128) : k0_pay43 (ix2 r w) = BitVec.ofNat 32 (w.val % 4) := by
  revert w
  revert r
  decide +kernel

/-- The two together as functions of the index. -/
theorem chunkHead_eq : chunkHead = fun j : S8x1024.Idx => BitVec.ofNat 32 ((j 1).val % 4) := by
  funext j
  rw [eq_ix2 j]
  exact chunkHead_apply _ _

theorem laneHead_eq : k0_pay43 = fun j : S8x128.Idx => BitVec.ofNat 32 ((j 1).val % 4) := by
  funext j
  rw [eq_ix2 j]
  exact laneHead_apply _ _

/-- A comparison of a lane's head with a head number, read as a condition on the lane. -/
theorem select_head {α : Type} (w n : ℕ) (hn : n < 4) (a b : α) :
    Scalar.select (IntOp.cmpi .eq (BitVec.ofNat 32 (w % 4)) (BitVec.ofNat 32 n)) a b = if w % 4 = n then a else b := by
  have hw : w % 4 < 4 := Nat.mod_lt _ (by decide)
  generalize w % 4 = u at hw
  have key : ∀ u n : Fin 4, IntOp.cmpi .eq (BitVec.ofNat 32 u.val) (BitVec.ofNat 32 n.val) = if u.val = n.val then 1#1 else 0#1 := by
    decide +kernel
  rw [key ⟨u, hw⟩ ⟨n, hn⟩]
  by_cases h : u = n
  · simp [h, Scalar.select]
  · simp [h, Scalar.select]

/-- The pattern of minus infinity reads as the least element. -/
theorem ofBits_negInf : Ideal.ofBits .f32 0xFF800000#32 = (⊥ : EReal) := by
  simp [Ideal.ofBits, Ideal.ieee]

end Cert.KernelIdeal.Val

end
-- ==== Proof.Scores.lean ====
/-
  THE SCORES: what one trip of the first loop computes, at an index, and so what the scratch buffer holds after all
  of them. Lane `w` of row `r` is the score of query head `8 (w % 4) + r % 8` against cache row `w` (rows 0–7) or
  `16384 + w` (rows 8–15).
-/
module

public import proofs.«01_k».proof.Proof.Heads
public import proofs.«01_k».proof.Proof.Scratch

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

/-! ## The mathematics of one sequence, indexed by natural numbers

Row `R` is a query head (`R / 8` its KV head), `n` a cache row of the flattened cache: position `n / 4`, KV head `n % 4`. -/

/-- The score of query head `R` against cache row `n`: the inner product with the dequantised key, times the softmax
    scale. -/
def sc (x0 : Vec Ideal S1x32x128 .bf16) (x3 : Vec Ideal S4x32x128 .f32) (x4 : Vec Ideal S1x32768x128 .fp8e4m3) (R n : ℕ) : EReal :=
  (∑ d : Fin 128, (x0 (ix3 0 ⟨R % 32, Nat.mod_lt _ (by decide)⟩ d) : EReal)
      * ((x4 (ix3 0 ⟨n % 32768, Nat.mod_lt _ (by decide)⟩ d) : EReal) * (x3 (ix3 0 ⟨n % 16, by omega⟩ d) : EReal)))
    * Ideal.ofBits .f32 0x3DB504F3#32

/-- Coordinate `d` of the dequantised value of cache row `n`. -/
def dv (x3 : Vec Ideal S4x32x128 .f32) (x5 : Vec Ideal S1x32768x128 .fp8e4m3) (n : ℕ) (d : Fin 128) : EReal :=
  (x5 (ix3 0 ⟨n % 32768, Nat.mod_lt _ (by decide)⟩ d) : EReal) * (x3 (ix3 1 ⟨n % 16, by omega⟩ d) : EReal)

/-- The query head lane `w` of row `r` holds: its own KV head's `r`-th. -/
abbrev hd (r w : ℕ) : ℕ := 8 * (w % 4) + r % 8

/-- The cache row lane `w` of row `r` holds: the second eight rows are the cache's second half. -/
abbrev cr (r w : ℕ) : ℕ := 16384 * (r / 8) + w

/-! ## The strip of scores -/

/-- The key scales read at an index. -/
theorem keyTile_apply (x3 : Vec Ideal S4x32x128 .f32) (r : Fin 16) (d : Fin 128) :
    keyTile x3 (ix2 r d) = x3 (ix3 0 ⟨r.val, by omega⟩ d) := by
  pointwise [keyTile, k0_pay29, k0_pay27]

/-- The value scales read at an index. -/
theorem valueTile_apply (x3 : Vec Ideal S4x32x128 .f32) (r : Fin 16) (d : Fin 128) :
    valueTile x3 (ix2 r d) = x3 (ix3 1 ⟨r.val, by omega⟩ d) := by
  pointwise [valueTile, k0_pay30, k0_pay28]

/-- The two halves of the padded queries: the queries beside zeros, zeros beside the queries. -/
theorem queries_apply (x0 : Vec Ideal S1x32x128 .bf16) (R : Fin 64) (w : Fin 256) :
    k0_pay38 x0 (ix2 R w) = if h : R.val < 32 then if h1 : w.val < 128 then x0 (ix3 0 ⟨R.val, h⟩ ⟨w.val, h1⟩) else (0 : EReal)
      else if h1 : w.val < 128 then (0 : EReal) else x0 (ix3 0 ⟨R.val - 32, by omega⟩ ⟨w.val - 128, by omega⟩) := by
  pointwise [k0_pay38, k0_pay36]

/-- The product of the padded queries with two chunks of keys. -/
theorem product_apply (v6 : FVec Ideal S16x128 .bf16) (v63 : FVec Ideal S64x256 .bf16) (a b : Vec Ideal S1x1024x128 .fp8e4m3)
    (R : Fin 64) (w : Fin 1024) : k0_pay2 v6 v63 a b (ix2 R w)
      = (∑ x : Fin 128, v63 (ix2 R ⟨x.val, by omega⟩) * (a (ix3 0 w x) * v6 (ix2 ⟨w.val % 16, by omega⟩ x)) : EReal)
        + (∑ x : Fin 128, v63 (ix2 R ⟨128 + x.val, by omega⟩) * (b (ix3 0 w x) * v6 (ix2 ⟨w.val % 16, by omega⟩ x)) : EReal) := by
  pointwise [k0_pay2]

/-- Each lane of the strip keeps the row of the product that is its own head's. -/
theorem strip_select (v6 : FVec Ideal S16x128 .bf16) (v63 : FVec Ideal S64x256 .bf16) (a b : Vec Ideal S1x1024x128 .fp8e4m3)
    (r : Fin 16) (w : Fin 1024) : strip v6 v63 a b (ix2 r w)
      = (k0_pay2 v6 v63 a b (ix2 ⟨32 * (r.val / 8) + hd r.val w.val, by unfold hd; omega⟩ w) * Ideal.ofBits .f32 0x3DB504F3#32 : EReal) := by
  unfold strip
  unfold k0_pay45
  rw [show k0_pay42 4#32 k0_pay39 k0_pay40 k0_pay41 = chunkHead from rfl, chunkHead_eq]
  unfold k0_pay3 k0_pay4 k0_pay5 k0_pay6 k0_pay7
  generalize k0_pay2 v6 v63 a b = P
  pointwise [k0_pay8, k0_pay9, k0_pay10]
  simp only [select_head _ 0 (by decide), select_head _ 1 (by decide), select_head _ 2 (by decide)]
  have hr := r.isLt
  have hw : w.val % 4 < 4 := Nat.mod_lt _ (by decide)
  unfold hd
  split_ifs <;> first
    | (exfalso; omega)
    | exact congrArg (fun i => (P (ix2 i w) * _ : EReal)) (Fin.ext (by simp; omega))

/-- Chunks of the caches, read at an index. -/
theorem loChunk_apply (x : Vec Ideal S1x32768x128 .fp8e4m3) (k : Fin k0_t1_loop.trips) (w : Fin 1024) (d : Fin 128) :
    loChunk x k (ix3 0 w d) = x (ix3 0 ⟨(1024 * k.val + w.val) % 32768, Nat.mod_lt _ (by decide)⟩ d) := by
  have hk : k.val < 16 := lt_of_lt_of_eq k.isLt trips1
  pointwise [loChunk]
  have h := k0_off1_eq k
  refine congrArg x (funext fun a => Fin.ext ?_)
  have ha := congrFun h a
  match a, ha with
  | ⟨0, _⟩, ha => exact ha
  | ⟨1, _⟩, ha => exact (congrArg (· + w.val) ha).trans (by simp; omega)
  | ⟨2, _⟩, ha => exact (congrArg (· + d.val) ha).trans (by simp)

theorem hiChunk_apply (x : Vec Ideal S1x32768x128 .fp8e4m3) (k : Fin k0_t1_loop.trips) (w : Fin 1024) (d : Fin 128) :
    hiChunk x k (ix3 0 w d) = x (ix3 0 ⟨(16384 + (1024 * k.val + w.val)) % 32768, Nat.mod_lt _ (by decide)⟩ d) := by
  have hk : k.val < 16 := lt_of_lt_of_eq k.isLt trips1
  pointwise [hiChunk]
  have h := k0_off2_eq k
  refine congrArg x (funext fun a => Fin.ext ?_)
  have ha := congrFun h a
  match a, ha with
  | ⟨0, _⟩, ha => exact ha
  | ⟨1, _⟩, ha => exact (congrArg (· + w.val) ha).trans (by simp; omega)
  | ⟨2, _⟩, ha => exact (congrArg (· + d.val) ha).trans (by simp)

theorem loChunk2_apply (x : Vec Ideal S1x32768x128 .fp8e4m3) (k : Fin k0_t2_loop.trips) (w : Fin 1024) (d : Fin 128) :
    loChunk2 x k (ix3 0 w d) = x (ix3 0 ⟨(1024 * k.val + w.val) % 32768, Nat.mod_lt _ (by decide)⟩ d) := by
  have hk : k.val < 16 := lt_of_lt_of_eq k.isLt trips2
  pointwise [loChunk2]
  have h := k0_off5_eq k
  refine congrArg x (funext fun a => Fin.ext ?_)
  have ha := congrFun h a
  match a, ha with
  | ⟨0, _⟩, ha => exact ha
  | ⟨1, _⟩, ha => exact (congrArg (· + w.val) ha).trans (by simp; omega)
  | ⟨2, _⟩, ha => exact (congrArg (· + d.val) ha).trans (by simp)

theorem hiChunk2_apply (x : Vec Ideal S1x32768x128 .fp8e4m3) (k : Fin k0_t2_loop.trips) (w : Fin 1024) (d : Fin 128) :
    hiChunk2 x k (ix3 0 w d) = x (ix3 0 ⟨(16384 + (1024 * k.val + w.val)) % 32768, Nat.mod_lt _ (by decide)⟩ d) := by
  have hk : k.val < 16 := lt_of_lt_of_eq k.isLt trips2
  pointwise [hiChunk2]
  have h := k0_off6_eq k
  refine congrArg x (funext fun a => Fin.ext ?_)
  have ha := congrFun h a
  match a, ha with
  | ⟨0, _⟩, ha => exact ha
  | ⟨1, _⟩, ha => exact (congrArg (· + w.val) ha).trans (by simp; omega)
  | ⟨2, _⟩, ha => exact (congrArg (· + d.val) ha).trans (by simp)

/-- A strip of the scratch, read at an index. -/
theorem scoreChunk_apply (s : Vec Ideal S16x16384 .f32) (k : Fin k0_t2_loop.trips) (r : Fin 16) (w : Fin 1024) :
    scoreChunk s k (ix2 r w) = s (ix2 r ⟨(1024 * k.val + w.val) % 16384, Nat.mod_lt _ (by decide)⟩) := by
  have hk : k.val < 16 := lt_of_lt_of_eq k.isLt trips2
  pointwise [scoreChunk]
  have h := k0_off4_eq k
  refine congrArg s (funext fun a => Fin.ext ?_)
  have ha := congrFun h a
  match a, ha with
  | ⟨0, _⟩, ha => exact (congrArg (· + r.val) ha).trans (by simp)
  | ⟨1, _⟩, ha => exact (congrArg (· + w.val) ha).trans (by simp; omega)

/-- THE STRIP of trip `k`: the scores of its lanes. -/
theorem strip_apply (x0 : Vec Ideal S1x32x128 .bf16) (x3 : Vec Ideal S4x32x128 .f32) (x4 : Vec Ideal S1x32768x128 .fp8e4m3)
    (k : Fin k0_t1_loop.trips) (r : Fin 16) (w : Fin 1024) :
    strip (keyTile x3) (k0_pay38 x0) (loChunk x4 k) (hiChunk x4 k) (ix2 r w)
      = sc x0 x3 x4 (hd r.val w.val) (cr r.val (1024 * k.val + w.val)) := by
  have hk : k.val < 16 := lt_of_lt_of_eq k.isLt trips1
  have hr := r.isLt
  have hw := w.isLt
  rw [strip_select, product_apply]
  unfold sc
  refine congrArg (fun z : EReal => z * Ideal.ofBits .f32 0x3DB504F3#32) ?_
  simp only [queries_apply, keyTile_apply, loChunk_apply, hiChunk_apply]
  have hR : hd r.val w.val < 32 := by unfold hd; omega
  by_cases h8 : r.val < 8
  · have h0 : r.val / 8 = 0 := by omega
    refine (congrArg₂ (fun a b : EReal => a + b) rfl (Finset.sum_eq_zero fun x _ => by
      rw [dif_pos (by omega), dif_neg (by omega), zero_mul])).trans ?_
    beta_reduce
    rw [add_zero]
    refine Finset.sum_congr rfl fun d _ => ?_
    rw [dif_pos (by omega), dif_pos d.isLt]
    refine congrArg₂ (fun a b : EReal => a * b) (congrArg (fun i => x0 (ix3 0 i d)) (Fin.ext ?_))
      (congrArg₂ (fun a b : EReal => a * b) (congrArg (fun i => x4 (ix3 0 i d)) (Fin.ext ?_)) (congrArg (fun i => x3 (ix3 0 i d)) (Fin.ext ?_)))
    · simp [cr]; omega
    · simp [cr]; omega
    · simp [cr]; omega
  · have h0 : r.val / 8 = 1 := by omega
    refine (congrArg₂ (fun a b : EReal => a + b) (Finset.sum_eq_zero fun x _ => by
      rw [dif_neg (by omega), dif_pos (by omega), zero_mul]) rfl).trans ?_
    beta_reduce
    rw [zero_add]
    refine Finset.sum_congr rfl fun d _ => ?_
    rw [dif_neg (by omega), dif_neg (by omega)]
    refine congrArg₂ (fun a b : EReal => a * b) (congrArg₂ (fun i j => x0 (ix3 0 i j)) (Fin.ext ?_) (Fin.ext ?_))
      (congrArg₂ (fun a b : EReal => a * b) (congrArg (fun i => x4 (ix3 0 i d)) (Fin.ext ?_)) (congrArg (fun i => x3 (ix3 0 i d)) (Fin.ext ?_)))
    · simp [cr]; omega
    · simp
    · simp [cr]; omega
    · simp [cr]; omega

/-- THE SCRATCH after the first loop, read at an index. -/
theorem allScores_apply (x0 : Vec Ideal S1x32x128 .bf16) (x3 : Vec Ideal S4x32x128 .f32) (x4 : Vec Ideal S1x32768x128 .fp8e4m3)
    (r : Fin 16) (w : Fin 16384) :
    allScores (keyTile x3) (k0_pay38 x0) x4 (ix2 r w) = sc x0 x3 x4 (hd r.val w.val) (cr r.val w.val) := by
  have hw := w.isLt
  have hk : w.val / 1024 < k0_t1_loop.trips := by rw [trips1]; omega
  refine (dif_pos hk).trans ?_
  refine (strip_apply x0 x3 x4 ⟨w.val / 1024, hk⟩ r ⟨w.val % 1024, Nat.mod_lt _ (by decide)⟩).trans ?_
  show sc x0 x3 x4 (hd r.val (w.val % 1024)) (cr r.val (1024 * (w.val / 1024) + w.val % 1024)) = _
  congr 1
  · unfold hd; omega
  · unfold cr; omega

end Cert.KernelIdeal.Val

end
-- ==== Proof.Sums.lean ====
/-
  RE-INDEXING: sums and maxima over lanes and halves of a cache against the same over positions. A flattened cache row
  `n` is position `n / 4` of KV head `n % 4`.
-/
module

public import proofs.«01_k».proof.Proof.Block

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

/-! ## Maxima, by what lies above them -/

/-- Below eight more is below each of the eight. -/
theorem forall_lt_add_eight (n : ℕ) (p : ℕ → Prop) :
    (∀ j < n + 8, p j) ↔ (∀ j < n, p j) ∧ p n ∧ p (n + 1) ∧ p (n + 2) ∧ p (n + 3) ∧ p (n + 4) ∧ p (n + 5) ∧ p (n + 6) ∧ p (n + 7) := by
  constructor
  · intro h
    exact ⟨fun j hj => h j (by omega), h _ (by omega), h _ (by omega), h _ (by omega), h _ (by omega), h _ (by omega),
      h _ (by omega), h _ (by omega), h _ (by omega)⟩
  · rintro ⟨h, h0, h1, h2, h3, h4, h5, h6, h7⟩ j hj
    by_cases hj' : j < n
    · exact h j hj'
    · obtain ⟨i, rfl⟩ : ∃ i, j = n + i := ⟨j - n, by omega⟩
      have hi : i < 8 := by omega
      match i, hi with
      | 0, _ => exact h0
      | 1, _ => exact h1
      | 2, _ => exact h2
      | 3, _ => exact h3
      | 4, _ => exact h4
      | 5, _ => exact h5
      | 6, _ => exact h6
      | 7, _ => exact h7

/-! ## Sums over ranges -/

/-- Eight more terms of a sum. -/
theorem sum_add_eight (n : ℕ) (f : ℕ → EReal) :
    ∑ j ∈ Finset.range (n + 8), f j = (((((((∑ j ∈ Finset.range n, f j) + f n) + f (n + 1)) + f (n + 2)) + f (n + 3)) + f (n + 4))
      + f (n + 5)) + f (n + 6) + f (n + 7) := by
  rw [show n + 8 = n + 1 + 1 + 1 + 1 + 1 + 1 + 1 + 1 from rfl]
  simp only [Finset.sum_range_succ]

/-- A sum over `a * b` indices, `b` at a time. -/
theorem sum_range_blocks (a b : ℕ) (f : ℕ → EReal) :
    ∑ w ∈ Finset.range (a * b), f w = ∑ j ∈ Finset.range a, ∑ i ∈ Finset.range b, f (b * j + i) := by
  induction a with
  | zero => simp
  | succ a ih => rw [Nat.succ_mul, Finset.sum_range_add, Finset.sum_range_succ, ih, Nat.mul_comm b a]

/-- The terms whose index is `h` modulo four. -/
theorem sum_every_fourth (n h : ℕ) (hh : h < 4) (f : ℕ → EReal) :
    ∑ w ∈ Finset.range (4 * n), (if w % 4 = h then f w else 0) = ∑ t ∈ Finset.range n, f (4 * t + h) := by
  induction n with
  | zero => simp
  | succ n ih =>
    rw [show 4 * (n + 1) = 4 * n + 1 + 1 + 1 + 1 by ring, Finset.sum_range_succ, Finset.sum_range_succ, Finset.sum_range_succ,
      Finset.sum_range_succ, Finset.sum_range_succ, ih]
    have e0 : (4 * n) % 4 = 0 := by omega
    have e1 : (4 * n + 1) % 4 = 1 := by omega
    have e2 : (4 * n + 1 + 1) % 4 = 2 := by omega
    have e3 : (4 * n + 1 + 1 + 1) % 4 = 3 := by omega
    rw [e0, e1, e2, e3]
    match h, hh with
    | 0, _ => simp
    | 1, _ => simp
    | 2, _ => simp
    | 3, _ => simp

/-- Lane by lane, the lanes of one head, then the two halves: the same terms as position by position. -/
theorem sum_lanes (h : ℕ) (hh : h < 4) (f : ℕ → EReal) :
    ∑ l ∈ Finset.range 128, (if l % 4 = h then
        (∑ j ∈ Finset.range 128, f (128 * j + l)) + (∑ j ∈ Finset.range 128, f (16384 + (128 * j + l))) else 0)
      = ∑ t ∈ Finset.range 8192, f (4 * t + h) := by
  rw [← sum_every_fourth 8192 h hh f, show 4 * 8192 = 128 * 128 + 128 * 128 from rfl, Finset.sum_range_add,
    sum_range_blocks, sum_range_blocks, Finset.sum_comm, Finset.sum_comm (s := Finset.range 128) (t := Finset.range 128) (f := fun j i => if (128 * 128 + (128 * j + i)) % 4 = h then f (128 * 128 + (128 * j + i)) else 0),
    ← Finset.sum_add_distrib]
  refine Finset.sum_congr rfl fun l _ => ?_
  by_cases hl : l % 4 = h
  · rw [if_pos hl]
    refine congrArg₂ (fun a b : EReal => a + b) (Finset.sum_congr rfl fun j _ => ?_) (Finset.sum_congr rfl fun j _ => ?_)
    · rw [if_pos (by omega)]
    · rw [if_pos (by omega)]
  · rw [if_neg hl, Finset.sum_eq_zero, Finset.sum_eq_zero, add_zero]
    · intro j _
      rw [if_neg (by omega)]
    · intro j _
      rw [if_neg (by omega)]

/-- The two halves' masked sums together, position by position. -/
theorem sum_halves (h : ℕ) (hh : h < 4) (f : ℕ → EReal) :
    (∑ w ∈ Finset.range 16384, (if w % 4 = h then f w else 0)) + (∑ w ∈ Finset.range 16384, (if w % 4 = h then f (16384 + w) else 0))
      = ∑ t ∈ Finset.range 8192, f (4 * t + h) := by
  rw [← sum_every_fourth 8192 h hh f, show 4 * 8192 = 16384 + 16384 from rfl, Finset.sum_range_add]
  refine congrArg₂ (fun a b : EReal => a + b) rfl (Finset.sum_congr rfl fun w _ => ?_)
  have e : (16384 + w) % 4 = w % 4 := by omega
  rw [e]

end Cert.KernelIdeal.Val

end
-- ==== Proof.Maximum.lean ====
/-
  THE MAXIMUM: the running maximum of the first loop, lane by lane, and the maximum per query head made from it (the
  lanes of a head folded together, the new token's score folded in).
-/
module

public import proofs.«01_k».proof.Proof.Scores
public import proofs.«01_k».proof.Proof.Sums

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

/-- One trip's running maximum at an index: eight more lanes folded in (`f i` the strip's lane `128 i + l`). -/
theorem maxStep_apply (v6 : FVec Ideal S16x128 .bf16) (v63 : FVec Ideal S64x256 .bf16) (a b : Vec Ideal S1x1024x128 .fp8e4m3)
    (acc : FVec Ideal S16x128 .f32) (r : Fin 16) (l : Fin 128) (f : ℕ → EReal)
    (hf : ∀ (i : ℕ) (w : Fin 1024), w.val = 128 * i + l.val → strip v6 v63 a b (ix2 r w) = f i) :
    maxStep v6 v63 a b acc (ix2 r l)
      = max (max (max (max (max (max (max (max (acc (ix2 r l)) (f 0)) (f 1)) (f 2)) (f 3)) (f 4)) (f 5)) (f 6)) (f 7) := by
  have hl := l.isLt
  rw [← hf 0 ⟨l.val, by omega⟩ (by simp), ← hf 1 ⟨128 + l.val, by omega⟩ (by simp), ← hf 2 ⟨256 + l.val, by omega⟩ (by simp),
    ← hf 3 ⟨384 + l.val, by omega⟩ (by simp), ← hf 4 ⟨512 + l.val, by omega⟩ (by simp), ← hf 5 ⟨640 + l.val, by omega⟩ (by simp),
    ← hf 6 ⟨768 + l.val, by omega⟩ (by simp), ← hf 7 ⟨896 + l.val, by omega⟩ (by simp)]
  have hs : k0_pay45 4#32 k0_pay39 k0_pay40 k0_pay41 (k0_pay3 v6 v63 a b) (k0_pay4 v6 v63 a b) (k0_pay5 v6 v63 a b)
    (k0_pay6 v6 v63 a b) (k0_pay7 v6 v63 chunkHead a b) (k0_pay8 chunkHead) (k0_pay9 chunkHead) k0_pay10 = strip v6 v63 a b := rfl
  unfold maxStep k0_pay47
  rw [hs]
  clear hs hf
  generalize strip v6 v63 a b = s
  pointwise []

/-- A lane's score does not change with the lane's number beyond its head. -/
theorem sc_lane (x0 : Vec Ideal S1x32x128 .bf16) (x3 : Vec Ideal S4x32x128 .f32) (x4 : Vec Ideal S1x32768x128 .fp8e4m3)
    (r a a' b b' : ℕ) (ha : a % 4 = a' % 4) (hb : b = b') : sc x0 x3 x4 (hd r a) (cr r b) = sc x0 x3 x4 (hd r a') (cr r b') := by
  subst hb
  unfold hd
  rw [ha]

/-- THE RUNNING MAXIMUM before trip `k`, by what lies above it: the lane's scores of the trips before. -/
theorem maxAt_le (x0 : Vec Ideal S1x32x128 .bf16) (x3 : Vec Ideal S4x32x128 .f32) (x4 : Vec Ideal S1x32768x128 .fp8e4m3)
    (r : Fin 16) (l : Fin 128) (c : EReal) : ∀ k : ℕ, k ≤ 16 →
    ((maxAt (keyTile x3) (k0_pay38 x0) x4 k (ix2 r l) : EReal) ≤ c ↔ ∀ j < 8 * k, sc x0 x3 x4 (hd r.val l.val) (cr r.val (128 * j + l.val)) ≤ c) := by
  intro k
  induction k with
  | zero =>
    intro _
    have h0 : maxAt (keyTile x3) (k0_pay38 x0) x4 0 (ix2 r l) = (⊥ : EReal) := by
      unfold maxAt
      pointwise [k0_pay44]
      exact ofBits_negInf
    rw [h0]
    simp
  | succ k ih =>
    intro hk
    have h : k < k0_t1_loop.trips := by rw [trips1]; omega
    have e : maxAt (keyTile x3) (k0_pay38 x0) x4 (k + 1)
        = maxStep (keyTile x3) (k0_pay38 x0) (loChunk x4 ⟨k, h⟩) (hiChunk x4 ⟨k, h⟩) (maxAt (keyTile x3) (k0_pay38 x0) x4 k) := dif_pos h
    rw [e, maxStep_apply _ _ _ _ _ r l (fun i => sc x0 x3 x4 (hd r.val l.val) (cr r.val (128 * (8 * k + i) + l.val))) (fun i w hw => by
      rw [strip_apply]
      exact sc_lane _ _ _ _ _ _ _ _ (by omega) (by simp only; omega))]
    simp only [max_le_iff]
    rw [ih (by omega), show 8 * (k + 1) = 8 * k + 8 from rfl, forall_lt_add_eight]
    simp only [and_assoc, Nat.add_zero]

/-- THE MAXIMUM PER QUERY HEAD, the new token's score included: the maximum over the positions of its KV head. -/
theorem maxCol_apply (x0 : Vec Ideal S1x32x128 .bf16) (x1 : Vec Ideal S1x4x128 .bf16) (x3 : Vec Ideal S4x32x128 .f32)
    (x4 : Vec Ideal S1x32768x128 .fp8e4m3) (R : Fin 32) :
    maxCol x0 x1 x3 x4 (ix2 R 0)
      = max ((Finset.range 8192).sup fun t => sc x0 x3 x4 R.val (4 * t + R.val / 8)) (newScore x0 x1 x3 (ix2 R 0) : EReal) := by
  have key : ∀ (h : ℕ) (hh : h < 4) (g : Fin 8) (g' : Fin 16), g'.val = 8 + g.val →  R.val = 8 * h + g.val →
      Finset.fold max (Ideal.ofBits .f32 0xFF800000#32) (fun l : Fin 128 => if l.val % 4 = h then
        (max (maxAll x0 x3 x4 (ix2 ⟨g.val, by omega⟩ l)) (maxAll x0 x3 x4 (ix2 g' l)) : EReal)
          else Ideal.ofBits .f32 0xFF800000#32) Finset.univ
        = (Finset.range 8192).sup fun t => sc x0 x3 x4 R.val (4 * t + R.val / 8) := by
    intro h hh g g' hg' hR
    have hg := g.isLt
    refine eq_of_forall_ge_iff fun c => ?_
    rw [Finset.fold_max_le, ofBits_negInf, Finset.sup_le_iff]
    have hall : ∀ (r : Fin 16) (l : Fin 128), (maxAll x0 x3 x4 (ix2 r l) : EReal) ≤ c ↔
        ∀ j < 128, sc x0 x3 x4 (hd r.val l.val) (cr r.val (128 * j + l.val)) ≤ c := fun r l => by
      unfold maxAll
      rw [show k0_t1_loop.trips = 16 from trips1]
      exact maxAt_le x0 x3 x4 r l c 16 (le_refl _)
    constructor
    · rintro ⟨-, hA⟩ t ht
      have ht' : t < 8192 := Finset.mem_range.mp ht
      have hl := hA ⟨(4 * t + h) % 128, Nat.mod_lt _ (by decide)⟩ (Finset.mem_univ _)
      rw [if_pos (by simp only; omega), max_le_iff, hall, hall] at hl
      by_cases h2 : 4 * t + h < 16384
      · refine le_of_eq_of_le ?_ (hl.1 ((4 * t + h) / 128) (by omega))
        congr 1
        · unfold hd; dsimp only; omega
        · unfold cr; dsimp only; omega
      · refine le_of_eq_of_le ?_ (hl.2 ((4 * t + h - 16384) / 128) (by omega))
        congr 1
        · unfold hd; dsimp only; omega
        · unfold cr; dsimp only; omega
    · intro hB
      refine ⟨bot_le, fun l _ => ?_⟩
      have hl := l.isLt
      by_cases hlh : l.val % 4 = h
      · rw [if_pos hlh, max_le_iff, hall, hall]
        constructor
        · intro j hj
          refine le_of_eq_of_le ?_ (hB ((128 * j + l.val) / 4) (Finset.mem_range.mpr (by omega)))
          congr 1
          · unfold hd; dsimp only; omega
          · unfold cr; dsimp only; omega
        · intro j hj
          refine le_of_eq_of_le ?_ (hB ((16384 + 128 * j + l.val) / 4) (Finset.mem_range.mpr (by omega)))
          congr 1
          · unfold hd; omega
          · unfold cr; omega
      · rw [if_neg hlh]
        exact bot_le
  have hR := R.isLt
  unfold maxCol k0_pay49 k0_pay50 k0_pay51
  rw [laneHead_eq]
  generalize maxAll x0 x3 x4 = mx at key ⊢
  generalize newScore x0 x1 x3 = s
  pointwise [k0_pay52, k0_pay48]
  refine congrArg₂ (fun a b : EReal => max a b) ?_ rfl
  simp only [select_head _ 0 (by decide), select_head _ 1 (by decide), select_head _ 2 (by decide), select_head _ 3 (by decide)]
  by_cases h0 : R.val < 8
  · exact (dif_pos h0).trans (key 0 (by decide) ⟨R.val, by omega⟩ ⟨8 + R.val, by omega⟩ rfl (by simp))
  refine (dif_neg h0).trans ?_
  by_cases h1 : R.val - 8 < 8
  · exact (dif_pos h1).trans (key 1 (by decide) ⟨R.val - 8, by omega⟩ ⟨8 + (R.val - 8), by omega⟩ rfl (by simp only; omega))
  refine (dif_neg h1).trans ?_
  by_cases h2 : R.val - 8 - 8 < 8
  · exact (dif_pos h2).trans (key 2 (by decide) ⟨R.val - 8 - 8, by omega⟩ ⟨8 + (R.val - 8 - 8), by omega⟩ rfl (by simp only; omega))
  refine (dif_neg h2).trans ?_
  exact key 3 (by decide) ⟨R.val - 8 - 8 - 8, by omega⟩ ⟨8 + (R.val - 8 - 8 - 8), by omega⟩ rfl (by simp only; omega)

/-- The maximum as each lane holds it: its query head's. -/
theorem maxLane_apply (x0 : Vec Ideal S1x32x128 .bf16) (x1 : Vec Ideal S1x4x128 .bf16) (x3 : Vec Ideal S4x32x128 .f32)
    (x4 : Vec Ideal S1x32768x128 .fp8e4m3) (r : Fin 16) (l : Fin 128) :
    maxLane x0 x1 x3 x4 (ix2 r l) = (maxCol x0 x1 x3 x4 (ix2 ⟨hd r.val l.val, by unfold hd; omega⟩ 0) : EReal) := by
  have hm : k0_pay52 (newScore x0 x1 x3) k0_pay43 (k0_pay48 (maxAll x0 x3 x4)) (k0_pay49 (maxAll x0 x3 x4)) (k0_pay50 (maxAll x0 x3 x4))
    k0_pay51 (Scalar.ofBits .f32 0xFF800000#32) = maxCol x0 x1 x3 x4 := rfl
  unfold maxLane k0_pay53
  rw [hm]
  clear hm
  generalize maxCol x0 x1 x3 x4 = M
  rw [laneHead_eq]
  pointwise []
  simp only [select_head _ 0 (by decide), select_head _ 1 (by decide), select_head _ 2 (by decide)]
  have hr := r.isLt
  have hw : l.val % 4 < 4 := Nat.mod_lt _ (by decide)
  split_ifs <;> first
    | (exfalso; omega)
    | exact congrArg (fun i => (M (ix2 i 0) : EReal)) (Fin.ext (by simp [hd]; omega))

end Cert.KernelIdeal.Val

end
-- ==== Proof.Weights.lean ====
/-
  THE WEIGHTS: what the second loop accumulates, at an index. Its first result sums the weights of each lane; its second
  sums, for each query head and each half of the cache, the weighted values of that head's lanes.
-/
module

public import proofs.«01_k».proof.Proof.Maximum

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

/-- The maximum of query head `R`, indexed by a natural number. -/
def mc (x0 : Vec Ideal S1x32x128 .bf16) (x1 : Vec Ideal S1x4x128 .bf16) (x3 : Vec Ideal S4x32x128 .f32)
    (x4 : Vec Ideal S1x32768x128 .fp8e4m3) (R : ℕ) : EReal :=
  maxCol x0 x1 x3 x4 (ix2 ⟨R % 32, Nat.mod_lt _ (by decide)⟩ 0)

/-- The unnormalised weight of cache row `n` for query head `R`. -/
def pw (x0 : Vec Ideal S1x32x128 .bf16) (x1 : Vec Ideal S1x4x128 .bf16) (x3 : Vec Ideal S4x32x128 .f32)
    (x4 : Vec Ideal S1x32768x128 .fp8e4m3) (R n : ℕ) : EReal :=
  Ideal.exp (sc x0 x3 x4 R n - mc x0 x1 x3 x4 R)

/-! ## One trip -/

/-- The exponentials of a strip, side by side again. -/
theorem exps_apply (mx : FVec Ideal S16x128 .f32) (s : Vec Ideal S16x1024 .f32) (r : Fin 16) (w : Fin 1024) :
    k0_pay20 mx s (ix2 r w) = Ideal.exp ((s (ix2 r w) : EReal) - mx (ix2 r ⟨w.val % 128, Nat.mod_lt _ (by decide)⟩)) := by
  have key : ∀ (a : Fin 1024) (b : Fin 128), a.val = w.val → b.val = w.val % 128 →
      Ideal.exp ((s (ix2 r a) : EReal) - mx (ix2 r b)) = Ideal.exp ((s (ix2 r w) : EReal) - mx (ix2 r ⟨w.val % 128, Nat.mod_lt _ (by decide)⟩)) := by
    intro a b ha hb
    rw [show a = w from Fin.ext ha, show b = ⟨w.val % 128, Nat.mod_lt _ (by decide)⟩ from Fin.ext hb]
  have hw := w.isLt
  pointwise [k0_pay20, k0_pay11, k0_pay12, k0_pay13, k0_pay14, k0_pay15, k0_pay16, k0_pay17, k0_pay18]
  split_ifs <;> exact key _ _ (by first | rfl | (dsimp only; omega)) (by dsimp only; omega)

/-- One trip's sums of weights at an index: eight more lanes added (`f i` the weight of lane `128 i + l`). -/
theorem sumStep_apply (mx : FVec Ideal S16x128 .f32) (s : Vec Ideal S16x1024 .f32) (acc : FVec Ideal S16x128 .f32)
    (r : Fin 16) (l : Fin 128) (f : ℕ → EReal)
    (hf : ∀ (i : ℕ) (w : Fin 1024), w.val = 128 * i + l.val → Ideal.exp ((s (ix2 r w) : EReal) - mx (ix2 r l)) = f i) :
    sumStep mx s acc (ix2 r l) = (((((((acc (ix2 r l) + f 0) + f 1) + f 2) + f 3) + f 4) + f 5) + f 6 + f 7 : EReal) := by
  have hl := l.isLt
  rw [← hf 0 ⟨l.val, by omega⟩ (by simp), ← hf 1 ⟨128 + l.val, by omega⟩ (by simp), ← hf 2 ⟨256 + l.val, by omega⟩ (by simp),
    ← hf 3 ⟨384 + l.val, by omega⟩ (by simp), ← hf 4 ⟨512 + l.val, by omega⟩ (by simp), ← hf 5 ⟨640 + l.val, by omega⟩ (by simp),
    ← hf 6 ⟨768 + l.val, by omega⟩ (by simp), ← hf 7 ⟨896 + l.val, by omega⟩ (by simp)]
  clear hf
  pointwise [sumStep, k0_pay19, k0_pay11, k0_pay12, k0_pay13, k0_pay14, k0_pay15, k0_pay16, k0_pay17, k0_pay18]

/-- The masked weights: row `32 p + 8 h + g` keeps the lanes of head `h` of row `8 p + g`. -/
theorem mask_apply (mx : FVec Ideal S16x128 .f32) (s : Vec Ideal S16x1024 .f32) (R : Fin 64) (w : Fin 1024) :
    k0_pay24 chunkHead (k0_pay20 mx s) (k0_pay21 chunkHead mx s) (k0_pay22 chunkHead mx s) (k0_pay23 chunkHead mx s) (ix2 R w)
      = if w.val % 4 = R.val % 32 / 8 then (k0_pay20 mx s (ix2 ⟨8 * (R.val / 32) + R.val % 8, by omega⟩ w) : EReal) else 0 := by
  unfold k0_pay24 k0_pay21 k0_pay22 k0_pay23
  generalize k0_pay20 mx s = E
  rw [chunkHead_eq]
  have hR := R.isLt
  have key : ∀ (h : ℕ) (a : Fin 16), h = R.val % 32 / 8 → a.val = 8 * (R.val / 32) + R.val % 8 →
      (if w.val % 4 = h then (E (ix2 a w) : EReal) else 0)
        = if w.val % 4 = R.val % 32 / 8 then (E (ix2 ⟨8 * (R.val / 32) + R.val % 8, by omega⟩ w) : EReal) else 0 := by
    intro h a hh ha
    rw [hh, show a = ⟨8 * (R.val / 32) + R.val % 8, by omega⟩ from Fin.ext ha]
  pointwise []
  simp only [select_head _ 0 (by decide), select_head _ 1 (by decide), select_head _ 2 (by decide), select_head _ 3 (by decide)]
  by_cases h0 : R.val < 8
  · exact (dif_pos h0).trans (key 0 _ (by omega) (by dsimp only; omega))
  refine (dif_neg h0).trans ?_
  by_cases h1 : R.val - 8 < 8
  · exact (dif_pos h1).trans (key 1 _ (by omega) (by dsimp only; omega))
  refine (dif_neg h1).trans ?_
  by_cases h2 : R.val - 8 - 8 < 8
  · exact (dif_pos h2).trans (key 2 _ (by omega) (by dsimp only; omega))
  refine (dif_neg h2).trans ?_
  by_cases h3 : R.val - 8 - 8 - 8 < 8
  · exact (dif_pos h3).trans (key 3 _ (by omega) (by dsimp only; omega))
  refine (dif_neg h3).trans ?_
  by_cases h4 : R.val - 8 - 8 - 8 - 8 < 8
  · exact (dif_pos h4).trans (key 0 _ (by omega) (by dsimp only; omega))
  refine (dif_neg h4).trans ?_
  by_cases h5 : R.val - 8 - 8 - 8 - 8 - 8 < 8
  · exact (dif_pos h5).trans (key 1 _ (by omega) (by dsimp only; omega))
  refine (dif_neg h5).trans ?_
  by_cases h6 : R.val - 8 - 8 - 8 - 8 - 8 - 8 < 8
  · exact (dif_pos h6).trans (key 2 _ (by omega) (by dsimp only; omega))
  refine (dif_neg h6).trans ?_
  exact key 3 _ (by omega) (by dsimp only; omega)

/-- One trip's weighted values at an index: columns below 128 are the first chunk's, the others the second's. -/
theorem product2_apply (v7 : FVec Ideal S16x128 .bf16) (P : FVec Ideal S64x1024 .bf16) (a b : Vec Ideal S1x1024x128 .fp8e4m3)
    (acc : FVec Ideal S64x256 .f32) (R : Fin 64) (c : Fin 256) :
    k0_pay56 v7 acc P (k0_pay25 v7 a) (k0_pay26 b) (ix2 R c)
      = (acc (ix2 R c) + ∑ x : Fin 1024, P (ix2 R x) *
          (if h : c.val < 128 then a (ix3 0 x ⟨c.val, h⟩) * v7 (ix2 ⟨x.val % 16, by omega⟩ ⟨c.val, h⟩)
            else b (ix3 0 x ⟨c.val - 128, by omega⟩) * v7 (ix2 ⟨x.val % 16, by omega⟩ ⟨c.val - 128, by omega⟩)) : EReal) := by
  pointwise [k0_pay56, k0_pay25, k0_pay26]

/-! ## All trips -/

section
variable (x0 : Vec Ideal S1x32x128 .bf16) (x1 : Vec Ideal S1x4x128 .bf16) (x3 : Vec Ideal S4x32x128 .f32)
  (x4 x5 : Vec Ideal S1x32768x128 .fp8e4m3)

/-- The second loop's state on the body's own operands. -/
abbrev wAt (k : ℕ) : FVec Ideal S16x128 .f32 × FVec Ideal S64x256 .f32 :=
  weightedAt (valueTile x3) (maxLane x0 x1 x3 x4) (allScores (keyTile x3) (k0_pay38 x0) x4) x5 k

/-- The exponential of a scratch lane: its query head's weight of its cache row. -/
theorem exp_lane (k : Fin k0_t2_loop.trips) (r : Fin 16) (w : Fin 1024) (l : Fin 128) (hl : l.val % 4 = w.val % 4) :
    Ideal.exp ((scoreChunk (allScores (keyTile x3) (k0_pay38 x0) x4) k (ix2 r w) : EReal) - maxLane x0 x1 x3 x4 (ix2 r l))
      = pw x0 x1 x3 x4 (hd r.val l.val) (cr r.val (1024 * k.val + w.val)) := by
  have hk : k.val < 16 := lt_of_lt_of_eq k.isLt trips2
  rw [scoreChunk_apply, allScores_apply, maxLane_apply]
  unfold pw mc
  refine congrArg Ideal.exp (congrArg₂ (fun a b : EReal => a - b) (sc_lane _ _ _ _ _ _ _ _ (by dsimp only; omega) (by dsimp only; omega)) ?_)
  exact congrArg (fun i => (maxCol x0 x1 x3 x4 (ix2 i 0) : EReal)) (Fin.ext (by simp [hd]; omega))

/-- THE SUMS of weights before trip `k`: the lane's weights of the trips before. -/
theorem wAt_fst (r : Fin 16) (l : Fin 128) : ∀ k : ℕ, k ≤ 16 →
    ((wAt x0 x1 x3 x4 x5 k).1 (ix2 r l) : EReal)
      = ∑ j ∈ Finset.range (8 * k), pw x0 x1 x3 x4 (hd r.val l.val) (cr r.val (128 * j + l.val)) := by
  intro k
  induction k with
  | zero =>
    intro _
    unfold wAt weightedAt
    pointwise [k0_pay54]
    simp
  | succ k ih =>
    intro hk
    have h : k < k0_t2_loop.trips := by rw [trips2]; omega
    have e : (wAt x0 x1 x3 x4 x5 (k + 1)).1
        = sumStep (maxLane x0 x1 x3 x4) (scoreChunk (allScores (keyTile x3) (k0_pay38 x0) x4) ⟨k, h⟩) (wAt x0 x1 x3 x4 x5 k).1 :=
      congrArg Prod.fst (dif_pos h)
    rw [e, sumStep_apply _ _ _ r l (fun i => pw x0 x1 x3 x4 (hd r.val l.val) (cr r.val (128 * (8 * k + i) + l.val))) (fun i w hw => by
      rw [exp_lane x0 x1 x3 x4 ⟨k, h⟩ r w l (by omega)]
      congr 1
      unfold cr
      dsimp only
      omega), ih (by omega), show 8 * (k + 1) = 8 * k + 8 from rfl, sum_add_eight]
    simp only [Nat.add_zero]

/-- THE WEIGHTED VALUES before trip `k`: the masked weights of the cache rows before, times their values. -/
theorem wAt_snd (R : Fin 64) (c : Fin 256) : ∀ k : ℕ, k ≤ 16 →
    ((wAt x0 x1 x3 x4 x5 k).2 (ix2 R c) : EReal)
      = ∑ w ∈ Finset.range (1024 * k), (if w % 4 = R.val % 32 / 8 then pw x0 x1 x3 x4 (R.val % 32) (16384 * (R.val / 32) + w) else 0)
          * dv x3 x5 (16384 * (c.val / 128) + w) ⟨c.val % 128, Nat.mod_lt _ (by decide)⟩ := by
  intro k
  induction k with
  | zero =>
    intro _
    unfold wAt weightedAt
    pointwise [k0_pay55]
    simp
  | succ k ih =>
    intro hk
    have h : k < k0_t2_loop.trips := by rw [trips2]; omega
    have e : (wAt x0 x1 x3 x4 x5 (k + 1)).2
        = accStep (valueTile x3) (maxLane x0 x1 x3 x4) (scoreChunk (allScores (keyTile x3) (k0_pay38 x0) x4) ⟨k, h⟩)
            (loChunk2 x5 ⟨k, h⟩) (hiChunk2 x5 ⟨k, h⟩) (wAt x0 x1 x3 x4 x5 k).2 :=
      congrArg Prod.snd (dif_pos h)
    rw [e]
    unfold accStep
    rw [product2_apply, ih (by omega), show 1024 * (k + 1) = 1024 * k + 1024 from rfl, Finset.sum_range_add]
    refine congrArg₂ (fun a b : EReal => a + b) rfl ?_
    rw [Finset.sum_range]
    have hR := R.isLt
    have hc := c.isLt
    refine Finset.sum_congr rfl fun w _ => ?_
    have hw := w.isLt
    refine congrArg₂ (fun a b : EReal => a * b) ?_ ?_
    · rw [mask_apply]
      have e4 : (1024 * k + w.val) % 4 = w.val % 4 := by omega
      rw [e4]
      by_cases hm : w.val % 4 = R.val % 32 / 8
      · rw [if_pos hm, if_pos hm, exps_apply, exp_lane x0 x1 x3 x4 ⟨k, h⟩ _ w _ (by dsimp only; omega)]
        congr 1
        · unfold hd; dsimp only; omega
        · unfold cr; dsimp only; omega
      · rw [if_neg hm, if_neg hm]
    · unfold dv
      by_cases hc1 : c.val < 128
      · rw [dif_pos hc1, loChunk2_apply, valueTile_apply]
        refine congrArg₂ (fun a b : EReal => a * b) (congrArg₂ (fun i j => x5 (ix3 0 i j)) (Fin.ext ?_) (Fin.ext ?_))
          (congrArg₂ (fun i j => x3 (ix3 1 i j)) (Fin.ext ?_) (Fin.ext ?_)) <;> (dsimp only; omega)
      · rw [dif_neg hc1, hiChunk2_apply, valueTile_apply]
        refine congrArg₂ (fun a b : EReal => a * b) (congrArg₂ (fun i j => x5 (ix3 0 i j)) (Fin.ext ?_) (Fin.ext ?_))
          (congrArg₂ (fun i j => x3 (ix3 1 i j)) (Fin.ext ?_) (Fin.ext ?_)) <;> (dsimp only; omega)

end

end Cert.KernelIdeal.Val

end
-- ==== Proof.Output.lean ====
/-
  THE THREE BLOCKS the body stores, at an index, over the extended reals: one sequence's attention output, and the new
  token's key and value codes.
-/
module

public import proofs.«01_k».proof.Proof.Weights

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

section
variable (x0 : Vec Ideal S1x32x128 .bf16) (x1 x2 : Vec Ideal S1x4x128 .bf16) (x3 : Vec Ideal S4x32x128 .f32)
  (x4 x5 : Vec Ideal S1x32768x128 .fp8e4m3)

/-- The two halves' weighted values of query head `R`, together: over the positions of its KV head. -/
theorem values_eq (R : Fin 32) (d : Fin 128) :
    ((weighted x0 x1 x3 x4 x5).2 (ix2 ⟨R.val, by omega⟩ ⟨d.val, by omega⟩)
        + (weighted x0 x1 x3 x4 x5).2 (ix2 ⟨32 + R.val, by omega⟩ ⟨128 + d.val, by omega⟩) : EReal)
      = ∑ t ∈ Finset.range 8192, pw x0 x1 x3 x4 R.val (4 * t + R.val / 8) * dv x3 x5 (4 * t + R.val / 8) d := by
  have hR := R.isLt
  have hd := d.isLt
  have hW : weighted x0 x1 x3 x4 x5 = wAt x0 x1 x3 x4 x5 16 := by
    unfold weighted
    rw [show k0_t2_loop.trips = 16 from trips2]
  rw [hW, wAt_snd _ _ _ _ _ _ _ 16 (le_refl _), wAt_snd _ _ _ _ _ _ _ 16 (le_refl _),
    ← sum_halves (R.val / 8) (by omega) (fun n => pw x0 x1 x3 x4 R.val n * dv x3 x5 n d)]
  refine congrArg₂ (fun a b : EReal => a + b) (Finset.sum_congr rfl fun w _ => ?_) (Finset.sum_congr rfl fun w _ => ?_)
  · have e1 : R.val % 32 = R.val := by omega
    have e2 : R.val / 32 = 0 := by omega
    have e3 : d.val / 128 = 0 := by omega
    have e4 : (⟨d.val % 128, Nat.mod_lt _ (by decide)⟩ : Fin 128) = d := Fin.ext (by dsimp only; omega)
    dsimp only
    rw [e4, e1, e2, e3, ite_mul, zero_mul, Nat.mul_zero, Nat.zero_add]
  · have e1 : (32 + R.val) % 32 = R.val := by omega
    have e2 : (32 + R.val) / 32 = 1 := by omega
    have e3 : (128 + d.val) / 128 = 1 := by omega
    have e4 : (⟨(128 + d.val) % 128, Nat.mod_lt _ (by decide)⟩ : Fin 128) = d := Fin.ext (by dsimp only; omega)
    dsimp only
    rw [e4, e1, e2, e3, ite_mul, zero_mul, Nat.mul_one]

/-- The lanes of KV head `h`, both halves: the sum of query head `8 h + g`'s weights over its positions. -/
theorem sums_eq (R : Fin 32) (h : ℕ) (hh : h < 4) (g : Fin 16) (g' : Fin 16) (hg : g.val < 8) (hg' : g'.val = 8 + g.val)
    (hR : R.val = 8 * h + g.val) :
    (∑ l : Fin 128, if l.val % 4 = h then ((weighted x0 x1 x3 x4 x5).1 (ix2 g l) + (weighted x0 x1 x3 x4 x5).1 (ix2 g' l) : EReal) else 0)
      = ∑ t ∈ Finset.range 8192, pw x0 x1 x3 x4 R.val (4 * t + R.val / 8) := by
  have hW : weighted x0 x1 x3 x4 x5 = wAt x0 x1 x3 x4 x5 16 := by
    unfold weighted
    rw [show k0_t2_loop.trips = 16 from trips2]
  have eh : R.val / 8 = h := by omega
  rw [hW, eh, ← sum_lanes h hh (fun n => pw x0 x1 x3 x4 R.val n), Finset.sum_range]
  refine Finset.sum_congr rfl fun l _ => ?_
  by_cases hl : l.val % 4 = h
  · rw [if_pos hl, if_pos hl, wAt_fst _ _ _ _ _ _ _ 16 (le_refl _), wAt_fst _ _ _ _ _ _ _ 16 (le_refl _)]
    refine congrArg₂ (fun a b : EReal => a + b) (Finset.sum_congr rfl fun j _ => ?_) (Finset.sum_congr rfl fun j _ => ?_)
    · congr 1
      · unfold hd; omega
      · unfold cr; omega
    · congr 1
      · unfold hd; omega
      · unfold cr; omega
  · rw [if_neg hl, if_neg hl]

/-- THE ATTENTION OUTPUT of one sequence: the weighted values over the positions of the query head's KV head and the new
    token, over the sum of the weights. -/
theorem outY_apply (R : Fin 32) (d : Fin 128) : outY x0 x1 x2 x3 x4 x5 (ix3 0 R d)
    = Ideal.div ((∑ t ∈ Finset.range 8192, pw x0 x1 x3 x4 R.val (4 * t + R.val / 8) * dv x3 x5 (4 * t + R.val / 8) d)
          + Ideal.exp ((newScore x0 x1 x3 (ix2 R 0) : EReal) - mc x0 x1 x3 x4 R.val) * newValue x2 x3 (ix2 R d))
        ((∑ t ∈ Finset.range 8192, pw x0 x1 x3 x4 R.val (4 * t + R.val / 8))
          + Ideal.exp ((newScore x0 x1 x3 (ix2 R 0) : EReal) - mc x0 x1 x3 x4 R.val)) := by
  have hR := R.isLt
  have hv := values_eq x0 x1 x3 x4 x5 R d
  have hs := sums_eq x0 x1 x3 x4 x5 R
  have hm : mc x0 x1 x3 x4 R.val = maxCol x0 x1 x3 x4 (ix2 R 0) := by
    unfold mc
    exact congrArg (fun i => (maxCol x0 x1 x3 x4 (ix2 i 0) : EReal)) (Fin.ext (by dsimp only; omega))
  rw [hm, ← hv]
  clear hm hv
  unfold outY
  rw [laneHead_eq]
  generalize weighted x0 x1 x3 x4 x5 = W at hs ⊢
  generalize newScore x0 x1 x3 = ns
  generalize newValue x2 x3 = nv
  generalize maxCol x0 x1 x3 x4 = mc
  pointwise [k0_pay1, k0_pay57, k0_pay58]
  refine congrArg (fun z : EReal => Ideal.div _ (z + _)) ?_
  simp only [select_head _ 0 (by decide), select_head _ 1 (by decide), select_head _ 2 (by decide), select_head _ 3 (by decide)]
  by_cases h0 : R.val < 8
  · exact (dif_pos h0).trans (hs 0 (by decide) _ _ (by dsimp only; omega) rfl (by dsimp only; omega))
  refine (dif_neg h0).trans ?_
  by_cases h1 : R.val - 8 < 8
  · exact (dif_pos h1).trans (hs 1 (by decide) _ _ (by dsimp only; omega) rfl (by dsimp only; omega))
  refine (dif_neg h1).trans ?_
  by_cases h2 : R.val - 8 - 8 < 8
  · exact (dif_pos h2).trans (hs 2 (by decide) _ _ (by dsimp only; omega) rfl (by dsimp only; omega))
  refine (dif_neg h2).trans ?_
  exact hs 3 (by decide) _ _ (by dsimp only; omega) rfl (by dsimp only; omega)

/-- The new token's score: the query against its dequantised key codes. -/
theorem newScore_apply (R : Fin 32) : newScore x0 x1 x3 (ix2 R 0)
    = ((∑ d : Fin 128, x0 (ix3 0 R d) * (min (Ideal.ofBits .f32 0x43E00000#32)
        (max (Ideal.ofBits .f32 0xC3E00000#32) (x1 (ix3 0 ⟨R.val / 8, by omega⟩ d) * x3 (ix3 2 ⟨R.val / 8, by omega⟩ d)))
          * x3 (ix3 0 ⟨R.val / 8, by omega⟩ d))) * Ideal.ofBits .f32 0x3DB504F3#32 : EReal) := by
  pointwise [newScore, keyCodes, k0_pay31, k0_pay27, k0_pay37, k0_pay36]

/-- The new token's value row: its dequantised value codes. -/
theorem newValue_apply (R : Fin 32) (d : Fin 128) : newValue x2 x3 (ix2 R d)
    = (min (Ideal.ofBits .f32 0x43E00000#32)
        (max (Ideal.ofBits .f32 0xC3E00000#32) (x2 (ix3 0 ⟨R.val / 8, by omega⟩ d) * x3 (ix3 3 ⟨R.val / 8, by omega⟩ d)))
          * x3 (ix3 1 ⟨R.val / 8, by omega⟩ d) : EReal) := by
  pointwise [newValue, valueCodes, k0_pay32, k0_pay28, k0_pay35]

/-- The new token's key codes: clipped to the format's range. -/
theorem outK_apply (h : Fin 4) (d : Fin 128) : outK x1 x3 (ix3 0 h d)
    = (min (Ideal.ofBits .f32 0x43E00000#32)
        (max (Ideal.ofBits .f32 0xC3E00000#32) (x1 (ix3 0 h d) * x3 (ix3 2 ⟨h.val, by omega⟩ d))) : EReal) := by
  pointwise [outK, k0_pay33, k0_pay31]

/-- The new token's value codes. -/
theorem outV_apply (h : Fin 4) (d : Fin 128) : outV x2 x3 (ix3 0 h d)
    = (min (Ideal.ofBits .f32 0x43E00000#32)
        (max (Ideal.ofBits .f32 0xC3E00000#32) (x2 (ix3 0 h d) * x3 (ix3 3 ⟨h.val, by omega⟩ d))) : EReal) := by
  pointwise [outV, valueCodes, k0_pay34, k0_pay32]

end

end Cert.KernelIdeal.Val

end
-- ==== Proof.Attention.lean ====
/-
  THE RESULT as mathematics over the extended reals, in terms of the arguments' contents alone: what both programs are
  shown to compute. One query head attends over the cached positions of its KV head and the new token.
-/
module

public import Idealize.ShloMosaic.Lib.Pointwise

@[expose] public section

noncomputable section

namespace Cert.Attention

open Idealize.ShloMosaic

/-- The scaled score of a query row against a key row. -/
def score (q k : Fin 128 → EReal) : EReal := (∑ e : Fin 128, q e * k e) * Ideal.ofBits .f32 0x3DB504F3#32

/-- The largest score of a query row: over the cached keys `k` and the new token's key `kn`. -/
def top (q : Fin 128 → EReal) (k : Fin 8192 → Fin 128 → EReal) (kn : Fin 128 → EReal) : EReal :=
  max (Finset.univ.sup fun t => score q (k t)) (score q kn)

/-- A key row's weight: the exponential of its score's distance below the largest. -/
def weight (q : Fin 128 → EReal) (k : Fin 8192 → Fin 128 → EReal) (kn r : Fin 128 → EReal) : EReal :=
  Ideal.exp (score q r - top q k kn)

/-- Softmax attention of one query row, at one lane: the weighted values over the sum of the weights. -/
def attend (q : Fin 128 → EReal) (k v : Fin 8192 → Fin 128 → EReal) (kn vn : Fin 128 → EReal) (d : Fin 128) : EReal :=
  Ideal.div ((∑ t, weight q k kn (k t) * v t d) + weight q k kn kn * vn d)
    ((∑ t, weight q k kn (k t)) + weight q k kn kn)

/-- A new token's code: the entry times the scale's inverse, clipped to the format's range. -/
def code (x i : EReal) : EReal := min (Ideal.ofBits .f32 0x43E00000#32) (max (Ideal.ofBits .f32 0xC3E00000#32) (x * i))

/-- The inverse scale of the scale `a`: one over the largest entry of the table `q` whose entry of `p` is at most `|a|`,
    where `|a|` is at least the smallest normal number and below infinity, otherwise two. -/
def inverse (p q : Fin 254 → BitVec 32) (a : EReal) : EReal :=
  Scalar.select
    (IntOp.andi
      (BitVec.ofBool (decide (Ideal.ofBits .f32 0x00800000#32 ≤ (FloatOps.absf (F := Ideal) (φ := .f32) a : EReal))))
      (BitVec.ofBool (decide ((FloatOps.absf (F := Ideal) (φ := .f32) a : EReal) < Ideal.ofBits .f32 0x7F800000#32))))
    (Ideal.div 1
      (Finset.fold max (Ideal.ofBits .f32 0xFF800000#32)
        (fun i : Fin 254 => if Ideal.ofBits .f32 (p i) ≤ (FloatOps.absf (F := Ideal) (φ := .f32) a : EReal)
          then Ideal.ofBits .f32 (q i) else Ideal.ofBits .f32 0x00000000#32)
        Finset.univ))
    (Ideal.ofBits .f32 0x40000000#32)

/-- The attention output of every sequence `b`, query head `R` and lane `d`: `x` the queries, `kn`, `vn` the new token,
    `kc`, `vc` the caches, `ks`, `vs` their scales and `ki`, `vi` the scales' inverses. -/
def output (x : Fin 8 → Fin 4096 → EReal) (kn vn : Fin 8 → Fin 4 → Fin 128 → EReal)
    (kc vc : Fin 8 → Fin 8192 → Fin 4 → Fin 128 → EReal) (ks vs ki vi : Fin 4 → EReal)
    (b : Fin 8) (R : Fin 32) (d : Fin 128) : EReal :=
  attend (fun e => x b ⟨R.val * 128 + e.val, by omega⟩)
    (fun t e => kc b t ⟨R.val / 8, by omega⟩ e * ks ⟨R.val / 8, by omega⟩)
    (fun t e => vc b t ⟨R.val / 8, by omega⟩ e * vs ⟨R.val / 8, by omega⟩)
    (fun e => code (kn b ⟨R.val / 8, by omega⟩ e) (ki ⟨R.val / 8, by omega⟩) * ks ⟨R.val / 8, by omega⟩)
    (fun e => code (vn b ⟨R.val / 8, by omega⟩ e) (vi ⟨R.val / 8, by omega⟩) * vs ⟨R.val / 8, by omega⟩) d

/-- A maximum over a range, taken over the positions. -/
theorem sup_range (n : ℕ) (f : ℕ → EReal) : ((Finset.range n).sup f) = Finset.univ.sup fun t : Fin n => f t.val := by
  apply le_antisymm
  · refine Finset.sup_le fun t ht => ?_
    exact Finset.le_sup (f := fun t : Fin n => f t.val) (Finset.mem_univ (⟨t, Finset.mem_range.mp ht⟩ : Fin n))
  · exact Finset.sup_le fun t _ => Finset.le_sup (f := f) (Finset.mem_range.mpr t.isLt)

/-- A maximum folded from minus infinity is the least upper bound. -/
theorem fold_max {α : Type} (s : Finset α) (f : α → EReal) : Finset.fold max ⊥ f s = s.sup f := by
  apply eq_of_forall_ge_iff
  intro a
  rw [Finset.fold_max_le, Finset.sup_le_iff]
  simp

end Cert.Attention

end
-- ==== Proof.Attend.lean ====
/-
  ONE SEQUENCE'S OUTPUT as softmax attention of its rows: the block that the body stores, in the words of Attention.lean.
-/
module

public import proofs.«01_k».proof.Proof.Output
public import proofs.«01_k».proof.Proof.Attention

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Cert.Attention

section
variable (x0 : Vec Ideal S1x32x128 .bf16) (x1 x2 : Vec Ideal S1x4x128 .bf16) (x3 : Vec Ideal S4x32x128 .f32)
  (x4 x5 : Vec Ideal S1x32768x128 .fp8e4m3)

/-- A query head's row of the block of queries. -/
abbrev qRow (R : Fin 32) : Fin 128 → EReal := fun e => x0 (ix3 0 R e)

/-- A position's dequantised key row, for the KV head of query head `R`. -/
abbrev kRow (R : Fin 32) (t : Fin 8192) : Fin 128 → EReal :=
  fun e => x4 (ix3 0 ⟨4 * t.val + R.val / 8, by omega⟩ e) * x3 (ix3 0 ⟨(4 * t.val + R.val / 8) % 16, by omega⟩ e)

/-- A position's dequantised value row. -/
abbrev vRow (R : Fin 32) (t : Fin 8192) : Fin 128 → EReal :=
  fun e => x5 (ix3 0 ⟨4 * t.val + R.val / 8, by omega⟩ e) * x3 (ix3 1 ⟨(4 * t.val + R.val / 8) % 16, by omega⟩ e)

/-- The new token's dequantised key row. -/
abbrev knRow (R : Fin 32) : Fin 128 → EReal :=
  fun e => code (x1 (ix3 0 ⟨R.val / 8, by omega⟩ e)) (x3 (ix3 2 ⟨R.val / 8, by omega⟩ e)) * x3 (ix3 0 ⟨R.val / 8, by omega⟩ e)

/-- The new token's dequantised value row. -/
abbrev vnRow (R : Fin 32) : Fin 128 → EReal :=
  fun e => code (x2 (ix3 0 ⟨R.val / 8, by omega⟩ e)) (x3 (ix3 3 ⟨R.val / 8, by omega⟩ e)) * x3 (ix3 1 ⟨R.val / 8, by omega⟩ e)

theorem sc_score (R : Fin 32) (t : Fin 8192) :
    sc x0 x3 x4 R.val (4 * t.val + R.val / 8) = score (qRow x0 R) (kRow x3 x4 R t) := by
  have hR := R.isLt
  have ht := t.isLt
  have e1 : (⟨R.val % 32, Nat.mod_lt _ (by decide)⟩ : Fin 32) = R := Fin.ext (by dsimp only; omega)
  have e2 : (⟨(4 * t.val + R.val / 8) % 32768, Nat.mod_lt _ (by decide)⟩ : Fin 32768) = ⟨4 * t.val + R.val / 8, by omega⟩ :=
    Fin.ext (by dsimp only; omega)
  unfold sc score
  rw [e1, e2]

theorem dv_value (R : Fin 32) (t : Fin 8192) (d : Fin 128) :
    dv x3 x5 (4 * t.val + R.val / 8) d = vRow x3 x5 R t d := by
  have hR := R.isLt
  have ht := t.isLt
  have e2 : (⟨(4 * t.val + R.val / 8) % 32768, Nat.mod_lt _ (by decide)⟩ : Fin 32768) = ⟨4 * t.val + R.val / 8, by omega⟩ :=
    Fin.ext (by dsimp only; omega)
  unfold dv
  rw [e2]

theorem newScore_score (R : Fin 32) : newScore x0 x1 x3 (ix2 R 0) = score (qRow x0 R) (knRow x1 x3 R) :=
  newScore_apply x0 x1 x3 R

theorem mc_top (R : Fin 32) : mc x0 x1 x3 x4 R.val = top (qRow x0 R) (kRow x3 x4 R) (knRow x1 x3 R) := by
  have hR := R.isLt
  have e1 : (⟨R.val % 32, Nat.mod_lt _ (by decide)⟩ : Fin 32) = R := Fin.ext (by dsimp only; omega)
  unfold mc top
  rw [e1, maxCol_apply, newScore_score, sup_range]
  simp only [sc_score]

/-- One sequence's attention output is softmax attention of its rows. -/
theorem outY_attend (R : Fin 32) (d : Fin 128) : outY x0 x1 x2 x3 x4 x5 (ix3 0 R d)
    = attend (qRow x0 R) (kRow x3 x4 R) (vRow x3 x5 R) (knRow x1 x3 R) (vnRow x2 x3 R) d := by
  rw [outY_apply, newScore_score, newValue_apply, Finset.sum_range, Finset.sum_range]
  unfold pw attend weight
  simp only [sc_score, dv_value, mc_top]
  rfl

end

end Cert.KernelIdeal.Val

end
-- ==== Proof.Entry.lean ====
/-
  WHAT THE KERNEL'S REGION FINDS in its operands, in terms of the arguments: the reshaped queries, new token and caches,
  and the table of the scales and their inverses.
-/
module

public import proofs.«01_k».proof.Proof.Body
public import proofs.«01_k».proof.Proof.Attention
public import Idealize.ShloMosaic.Lib.Pointwise
public import Idealize.ShloMosaic.Lib.Claim
public import Idealize.ShloMosaic.Lib.StableHlo.ReadAt

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Cert.Attention

variable (m : (ℓ : Loc nD τ sig) → Buf (Elt Ideal) ℓ)

/-! ## The arguments, index by index -/

/-- The queries. -/
abbrev xArg (c : Dev nD) (b : Fin 8) (e : Fin 4096) : EReal := m ((c : Thread nD τ).loc main_arg0) (ix3 b 0 e)
/-- The new token's keys. -/
abbrev knArg (c : Dev nD) (b : Fin 8) (h : Fin 4) (e : Fin 128) : EReal := m ((c : Thread nD τ).loc main_arg1) (ix4 b 0 h e)
/-- The new token's values. -/
abbrev vnArg (c : Dev nD) (b : Fin 8) (h : Fin 4) (e : Fin 128) : EReal := m ((c : Thread nD τ).loc main_arg2) (ix4 b 0 h e)
/-- The cached key codes. -/
abbrev kcArg (c : Dev nD) (b : Fin 8) (t : Fin 8192) (h : Fin 4) (e : Fin 128) : EReal :=
  m ((c : Thread nD τ).loc main_arg3) (ix4 b t h e)
/-- The key scales. -/
abbrev ksArg (c : Dev nD) (h : Fin 4) : EReal := m ((c : Thread nD τ).loc main_arg4) (ix1 h)
/-- The cached value codes. -/
abbrev vcArg (c : Dev nD) (b : Fin 8) (t : Fin 8192) (h : Fin 4) (e : Fin 128) : EReal :=
  m ((c : Thread nD τ).loc main_arg5) (ix4 b t h e)
/-- The value scales. -/
abbrev vsArg (c : Dev nD) (h : Fin 4) : EReal := m ((c : Thread nD τ).loc main_arg6) (ix1 h)

/-- The tables of powers of two, as the program holds them: one pair for the keys, one for the values. -/
abbrev tab0 (i : Fin 254) : BitVec 32 := lit0 (S254.rowMajor (ix1 i))
abbrev tab1 (i : Fin 254) : BitVec 32 := lit1 (S254.rowMajor (ix1 i))
abbrev tab2 (i : Fin 254) : BitVec 32 := lit2 (S254.rowMajor (ix1 i))
abbrev tab3 (i : Fin 254) : BitVec 32 := lit3 (S254.rowMajor (ix1 i))

/-! ## What the region finds in its operands -/

theorem entry_x (c : Dev nD) (b : Fin 8) (R : Fin 32) (d : Fin 128) :
    V m c main_v42 (ix3 b R d) = xArg m c b ⟨R.val * 128 + d.val, by omega⟩ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

theorem entry_kn (c : Dev nD) (b : Fin 8) (h : Fin 4) (d : Fin 128) : V m c main_v43 (ix3 b h d) = knArg m c b h d := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

theorem entry_vn (c : Dev nD) (b : Fin 8) (h : Fin 4) (d : Fin 128) : V m c main_v44 (ix3 b h d) = vnArg m c b h d := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

/-- Row `n` of the flattened cache is position `n / 4` of KV head `n % 4`. -/
theorem entry_kc (c : Dev nD) (b : Fin 8) (n : Fin 32768) (d : Fin 128) :
    V m c main_v45 (ix3 b n d) = kcArg m c b ⟨n.val / 4, by omega⟩ ⟨n.val % 4, by omega⟩ d := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

theorem entry_vc (c : Dev nD) (b : Fin 8) (n : Fin 32768) (d : Fin 128) :
    V m c main_v46 (ix3 b n d) = vcArg m c b ⟨n.val / 4, by omega⟩ ⟨n.val % 4, by omega⟩ d := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

/-- The table of parameters holds, at rows `r` with `r % 4 = h`, the scales of KV head `h` and their inverses. -/
theorem entry_ks (c : Dev nD) (r : Fin 32) (d : Fin 128) :
    V m c main_v41 (ix3 0 r d) = ksArg m c ⟨r.val % 4, by omega⟩ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  after_reads_at

theorem entry_vs (c : Dev nD) (r : Fin 32) (d : Fin 128) :
    V m c main_v41 (ix3 1 r d) = vsArg m c ⟨r.val % 4, by omega⟩ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  after_reads_at

theorem entry_ki (c : Dev nD) (r : Fin 32) (d : Fin 128) :
    V m c main_v41 (ix3 2 r d) = inverse tab0 tab1 (ksArg m c ⟨r.val % 4, by omega⟩) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  after_reads_at
  rfl

theorem entry_vi (c : Dev nD) (r : Fin 32) (d : Fin 128) :
    V m c main_v41 (ix3 3 r d) = inverse tab2 tab3 (vsArg m c ⟨r.val % 4, by omega⟩) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  after_reads_at
  rfl

end Cert.KernelIdeal.Val

end
-- ==== Proof.Arrays.lean ====
/-
  THE KERNEL'S RUN BY VALUES: each grid point writes back its sequence's part of the three results, so the result arrays
  end holding the softmax attention and the new token's codes, as functions of the arguments.
-/
module

public import proofs.«01_k».proof.Proof.Attend
public import proofs.«01_k».proof.Proof.Entry
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Cert.Attention

variable (m : (ℓ : Loc nD τ sig) → Buf (Elt Ideal) ℓ) (ρ : Dev nD → PrngReg)

/-! ## The windows' blocks: a grid point's block of an operand is its sequence's part of the array -/

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)

theorem emb0 (t : Fin cfg0.N) (r : Fin 32) (d : Fin 128) :
    ((cfg0.win 0).blk t).view.emb (ix3 0 r d : S1x32x128.Idx) = (ix3 (t : Fin 8) r d) := by
  obtain ⟨e0, e1, e2⟩ := index0 t
  funext a; apply Fin.ext
  match a with
  | ⟨0, _⟩ => show win0_0.index t (0 : Fin 3) * 1 + 1 * 0 = t.val; omega
  | ⟨1, _⟩ => show win0_0.index t (1 : Fin 3) * 32 + 1 * r.val = r.val; omega
  | ⟨2, _⟩ => show win0_0.index t (2 : Fin 3) * 128 + 1 * d.val = d.val; omega

theorem iblk0_apply (c : Dev nD) (t : Fin cfg0.N) (r : Fin 32) (d : Fin 128) :
    iblk m c 0 t (ix3 0 r d : S1x32x128.Idx) = V m c main_v42 (ix3 (t : Fin 8) r d) := by
  exact congrArg (V m c main_v42) (emb0 t r d)

theorem index1 : ∀ t : Fin cfg0.N, win0_1.index t (0 : Fin 3) = t.val ∧ win0_1.index t (1 : Fin 3) = 0 ∧ win0_1.index t (2 : Fin 3) = 0 :=
  (by decide +kernel : ∀ t : Fin grid0.N, _)

theorem emb1 (t : Fin cfg0.N) (r : Fin 4) (d : Fin 128) :
    ((cfg0.win 1).blk t).view.emb (ix3 0 r d : S1x4x128.Idx) = (ix3 (t : Fin 8) r d) := by
  obtain ⟨e0, e1, e2⟩ := index1 t
  funext a; apply Fin.ext
  match a with
  | ⟨0, _⟩ => show win0_1.index t (0 : Fin 3) * 1 + 1 * 0 = t.val; omega
  | ⟨1, _⟩ => show win0_1.index t (1 : Fin 3) * 4 + 1 * r.val = r.val; omega
  | ⟨2, _⟩ => show win0_1.index t (2 : Fin 3) * 128 + 1 * d.val = d.val; omega

theorem iblk1_apply (c : Dev nD) (t : Fin cfg0.N) (r : Fin 4) (d : Fin 128) :
    iblk m c 1 t (ix3 0 r d : S1x4x128.Idx) = V m c main_v43 (ix3 (t : Fin 8) r d) := by
  exact congrArg (V m c main_v43) (emb1 t r d)

theorem index2 : ∀ t : Fin cfg0.N, win0_2.index t (0 : Fin 3) = t.val ∧ win0_2.index t (1 : Fin 3) = 0 ∧ win0_2.index t (2 : Fin 3) = 0 :=
  (by decide +kernel : ∀ t : Fin grid0.N, _)

theorem emb2 (t : Fin cfg0.N) (r : Fin 4) (d : Fin 128) :
    ((cfg0.win 2).blk t).view.emb (ix3 0 r d : S1x4x128.Idx) = (ix3 (t : Fin 8) r d) := by
  obtain ⟨e0, e1, e2⟩ := index2 t
  funext a; apply Fin.ext
  match a with
  | ⟨0, _⟩ => show win0_2.index t (0 : Fin 3) * 1 + 1 * 0 = t.val; omega
  | ⟨1, _⟩ => show win0_2.index t (1 : Fin 3) * 4 + 1 * r.val = r.val; omega
  | ⟨2, _⟩ => show win0_2.index t (2 : Fin 3) * 128 + 1 * d.val = d.val; omega

theorem iblk2_apply (c : Dev nD) (t : Fin cfg0.N) (r : Fin 4) (d : Fin 128) :
    iblk m c 2 t (ix3 0 r d : S1x4x128.Idx) = V m c main_v44 (ix3 (t : Fin 8) r d) := by
  exact congrArg (V m c main_v44) (emb2 t r d)

theorem index3 : ∀ t : Fin cfg0.N, win0_3.index t (0 : Fin 3) = 0 ∧ win0_3.index t (1 : Fin 3) = 0 ∧ win0_3.index t (2 : Fin 3) = 0 :=
  (by decide +kernel : ∀ t : Fin grid0.N, _)

theorem emb3 (t : Fin cfg0.N) (i : Fin 4) (r : Fin 32) (d : Fin 128) :
    ((cfg0.win 3).blk t).view.emb (ix3 i r d : S4x32x128.Idx) = (ix3 i r d) := by
  obtain ⟨e0, e1, e2⟩ := index3 t
  funext a; apply Fin.ext
  match a with
  | ⟨0, _⟩ => show win0_3.index t (0 : Fin 3) * 4 + 1 * i.val = i.val; omega
  | ⟨1, _⟩ => show win0_3.index t (1 : Fin 3) * 32 + 1 * r.val = r.val; omega
  | ⟨2, _⟩ => show win0_3.index t (2 : Fin 3) * 128 + 1 * d.val = d.val; omega

theorem iblk3_apply (c : Dev nD) (t : Fin cfg0.N) (i : Fin 4) (r : Fin 32) (d : Fin 128) :
    iblk m c 3 t (ix3 i r d : S4x32x128.Idx) = V m c main_v41 (ix3 i r d) := by
  exact congrArg (V m c main_v41) (emb3 t i r d)

theorem index4 : ∀ t : Fin cfg0.N, win0_4.index t (0 : Fin 3) = t.val ∧ win0_4.index t (1 : Fin 3) = 0 ∧ win0_4.index t (2 : Fin 3) = 0 :=
  (by decide +kernel : ∀ t : Fin grid0.N, _)

theorem emb4 (t : Fin cfg0.N) (r : Fin 32768) (d : Fin 128) :
    ((cfg0.win 4).blk t).view.emb (ix3 0 r d : S1x32768x128.Idx) = (ix3 (t : Fin 8) r d) := by
  obtain ⟨e0, e1, e2⟩ := index4 t
  funext a; apply Fin.ext
  match a with
  | ⟨0, _⟩ => show win0_4.index t (0 : Fin 3) * 1 + 1 * 0 = t.val; omega
  | ⟨1, _⟩ => show win0_4.index t (1 : Fin 3) * 32768 + 1 * r.val = r.val; omega
  | ⟨2, _⟩ => show win0_4.index t (2 : Fin 3) * 128 + 1 * d.val = d.val; omega

theorem iblk4_apply (c : Dev nD) (t : Fin cfg0.N) (r : Fin 32768) (d : Fin 128) :
    iblk m c 4 t (ix3 0 r d : S1x32768x128.Idx) = V m c main_v45 (ix3 (t : Fin 8) r d) := by
  exact congrArg (V m c main_v45) (emb4 t r d)

theorem index5 : ∀ t : Fin cfg0.N, win0_5.index t (0 : Fin 3) = t.val ∧ win0_5.index t (1 : Fin 3) = 0 ∧ win0_5.index t (2 : Fin 3) = 0 :=
  (by decide +kernel : ∀ t : Fin grid0.N, _)

theorem emb5 (t : Fin cfg0.N) (r : Fin 32768) (d : Fin 128) :
    ((cfg0.win 5).blk t).view.emb (ix3 0 r d : S1x32768x128.Idx) = (ix3 (t : Fin 8) r d) := by
  obtain ⟨e0, e1, e2⟩ := index5 t
  funext a; apply Fin.ext
  match a with
  | ⟨0, _⟩ => show win0_5.index t (0 : Fin 3) * 1 + 1 * 0 = t.val; omega
  | ⟨1, _⟩ => show win0_5.index t (1 : Fin 3) * 32768 + 1 * r.val = r.val; omega
  | ⟨2, _⟩ => show win0_5.index t (2 : Fin 3) * 128 + 1 * d.val = d.val; omega

theorem iblk5_apply (c : Dev nD) (t : Fin cfg0.N) (r : Fin 32768) (d : Fin 128) :
    iblk m c 5 t (ix3 0 r d : S1x32768x128.Idx) = V m c main_v46 (ix3 (t : Fin 8) r d) := by
  exact congrArg (V m c main_v46) (emb5 t r d)

theorem index6 : ∀ t : Fin cfg0.N, win0_6.index t (0 : Fin 3) = t.val ∧ win0_6.index t (1 : Fin 3) = 0 ∧ win0_6.index t (2 : Fin 3) = 0 :=
  (by decide +kernel : ∀ t : Fin grid0.N, _)

theorem emb6 (t : Fin cfg0.N) (r : Fin 32) (d : Fin 128) :
    ((cfg0.win 6).blk t).view.emb (ix3 0 r d : S1x32x128.Idx) = (ix3 (t : Fin 8) r d) := by
  obtain ⟨e0, e1, e2⟩ := index6 t
  funext a; apply Fin.ext
  match a with
  | ⟨0, _⟩ => show win0_6.index t (0 : Fin 3) * 1 + 1 * 0 = t.val; omega
  | ⟨1, _⟩ => show win0_6.index t (1 : Fin 3) * 32 + 1 * r.val = r.val; omega
  | ⟨2, _⟩ => show win0_6.index t (2 : Fin 3) * 128 + 1 * d.val = d.val; omega

theorem index7 : ∀ t : Fin cfg0.N, win0_7.index t (0 : Fin 3) = t.val ∧ win0_7.index t (1 : Fin 3) = 0 ∧ win0_7.index t (2 : Fin 3) = 0 :=
  (by decide +kernel : ∀ t : Fin grid0.N, _)

theorem emb7 (t : Fin cfg0.N) (r : Fin 4) (d : Fin 128) :
    ((cfg0.win 7).blk t).view.emb (ix3 0 r d : S1x4x128.Idx) = (ix3 (t : Fin 8) r d) := by
  obtain ⟨e0, e1, e2⟩ := index7 t
  funext a; apply Fin.ext
  match a with
  | ⟨0, _⟩ => show win0_7.index t (0 : Fin 3) * 1 + 1 * 0 = t.val; omega
  | ⟨1, _⟩ => show win0_7.index t (1 : Fin 3) * 4 + 1 * r.val = r.val; omega
  | ⟨2, _⟩ => show win0_7.index t (2 : Fin 3) * 128 + 1 * d.val = d.val; omega

theorem index8 : ∀ t : Fin cfg0.N, win0_8.index t (0 : Fin 3) = t.val ∧ win0_8.index t (1 : Fin 3) = 0 ∧ win0_8.index t (2 : Fin 3) = 0 :=
  (by decide +kernel : ∀ t : Fin grid0.N, _)

theorem emb8 (t : Fin cfg0.N) (r : Fin 4) (d : Fin 128) :
    ((cfg0.win 8).blk t).view.emb (ix3 0 r d : S1x4x128.Idx) = (ix3 (t : Fin 8) r d) := by
  obtain ⟨e0, e1, e2⟩ := index8 t
  funext a; apply Fin.ext
  match a with
  | ⟨0, _⟩ => show win0_8.index t (0 : Fin 3) * 1 + 1 * 0 = t.val; omega
  | ⟨1, _⟩ => show win0_8.index t (1 : Fin 3) * 4 + 1 * r.val = r.val; omega
  | ⟨2, _⟩ => show win0_8.index t (2 : Fin 3) * 128 + 1 * d.val = d.val; omega

/-! ## The result arrays -/

/-- The inverses of the scales, as the kernel's host line computes them. -/
abbrev kiArg (c : Dev nD) (h : Fin 4) : EReal := inverse tab0 tab1 (ksArg m c h)
abbrev viArg (c : Dev nD) (h : Fin 4) : EReal := inverse tab2 tab3 (vsArg m c h)

/-- The three result arrays, as functions of the arguments. -/
def resY (c : Dev nD) : (⟨S8x32x128, .bf16⟩ : BufTy).Contents (Elt Ideal) := fun i =>
  output (xArg m c) (knArg m c) (vnArg m c) (kcArg m c) (vcArg m c) (ksArg m c) (vsArg m c) (kiArg m c) (viArg m c) (i 0) (i 1) (i 2)
def resK (c : Dev nD) : (⟨S8x4x128, .fp8e4m3⟩ : BufTy).Contents (Elt Ideal) := fun i =>
  code (knArg m c (i 0) (i 1) (i 2)) (kiArg m c (i 1))
def resV (c : Dev nD) : (⟨S8x4x128, .fp8e4m3⟩ : BufTy).Contents (Elt Ideal) := fun i =>
  code (vnArg m c (i 0) (i 1) (i 2)) (viArg m c (i 1))

theorem k_entry (c : Dev nD) (t : Fin cfg0.N) (s : Fin 8192) (h : Fin 4) (e : Fin 128) :
    iblk m c 4 t (ix3 0 ⟨4 * s.val + h.val, by omega⟩ e : S1x32768x128.Idx) = kcArg m c (t : Fin 8) s h e := by
  refine (iblk4_apply m c t ⟨4 * s.val + h.val, by omega⟩ e).trans ((entry_kc m c (t : Fin 8) ⟨4 * s.val + h.val, by omega⟩ e).trans ?_)
  have e1 : (⟨(4 * s.val + h.val) / 4, by omega⟩ : Fin 8192) = s := Fin.ext (by dsimp only; omega)
  have e2 : (⟨(4 * s.val + h.val) % 4, by omega⟩ : Fin 4) = h := Fin.ext (by dsimp only; omega)
  exact congrArg₂ (fun a b => kcArg m c (t : Fin 8) a b e) e1 e2

theorem v_entry (c : Dev nD) (t : Fin cfg0.N) (s : Fin 8192) (h : Fin 4) (e : Fin 128) :
    iblk m c 5 t (ix3 0 ⟨4 * s.val + h.val, by omega⟩ e : S1x32768x128.Idx) = vcArg m c (t : Fin 8) s h e := by
  refine (iblk5_apply m c t ⟨4 * s.val + h.val, by omega⟩ e).trans ((entry_vc m c (t : Fin 8) ⟨4 * s.val + h.val, by omega⟩ e).trans ?_)
  have e1 : (⟨(4 * s.val + h.val) / 4, by omega⟩ : Fin 8192) = s := Fin.ext (by dsimp only; omega)
  have e2 : (⟨(4 * s.val + h.val) % 4, by omega⟩ : Fin 4) = h := Fin.ext (by dsimp only; omega)
  exact congrArg₂ (fun a b => vcArg m c (t : Fin 8) a b e) e1 e2

/-- The table of parameters, at a row that belongs to KV head `h`. -/
theorem ks_entry (c : Dev nD) (t : Fin cfg0.N) (r : Fin 32) (h : Fin 4) (hr : r.val % 4 = h.val) (e : Fin 128) :
    iblk m c 3 t (ix3 0 r e : S4x32x128.Idx) = ksArg m c h := by
  refine (iblk3_apply m c t 0 r e).trans ((entry_ks m c r e).trans ?_)
  exact congrArg (ksArg m c) (Fin.ext hr)

theorem vs_entry (c : Dev nD) (t : Fin cfg0.N) (r : Fin 32) (h : Fin 4) (hr : r.val % 4 = h.val) (e : Fin 128) :
    iblk m c 3 t (ix3 1 r e : S4x32x128.Idx) = vsArg m c h := by
  refine (iblk3_apply m c t 1 r e).trans ((entry_vs m c r e).trans ?_)
  exact congrArg (vsArg m c) (Fin.ext hr)

theorem ki_entry (c : Dev nD) (t : Fin cfg0.N) (r : Fin 32) (h : Fin 4) (hr : r.val % 4 = h.val) (e : Fin 128) :
    iblk m c 3 t (ix3 2 r e : S4x32x128.Idx) = kiArg m c h := by
  refine (iblk3_apply m c t 2 r e).trans ((entry_ki m c r e).trans ?_)
  exact congrArg (kiArg m c) (Fin.ext hr)

theorem vi_entry (c : Dev nD) (t : Fin cfg0.N) (r : Fin 32) (h : Fin 4) (hr : r.val % 4 = h.val) (e : Fin 128) :
    iblk m c 3 t (ix3 3 r e : S4x32x128.Idx) = viArg m c h := by
  refine (iblk3_apply m c t 3 r e).trans ((entry_vi m c r e).trans ?_)
  exact congrArg (viArg m c) (Fin.ext hr)

theorem q_rows (c : Dev nD) (t : Fin cfg0.N) (R : Fin 32) :
    qRow (iblk m c 0 t) R = fun e => xArg m c (t : Fin 8) ⟨R.val * 128 + e.val, by omega⟩ := by
  funext e
  exact (iblk0_apply m c t R e).trans (entry_x m c (t : Fin 8) R e)

theorem k_rows (c : Dev nD) (t : Fin cfg0.N) (R : Fin 32) :
    kRow (iblk m c 3 t) (iblk m c 4 t) R
      = fun s e => kcArg m c (t : Fin 8) s ⟨R.val / 8, by omega⟩ e * ksArg m c ⟨R.val / 8, by omega⟩ := by
  funext s e
  have hR := R.isLt
  exact congrArg₂ (fun a b : EReal => a * b) (k_entry m c t s ⟨R.val / 8, by omega⟩ e)
    (ks_entry m c t ⟨(4 * s.val + R.val / 8) % 16, by omega⟩ ⟨R.val / 8, by omega⟩ (by dsimp only; omega) e)

theorem v_rows (c : Dev nD) (t : Fin cfg0.N) (R : Fin 32) :
    vRow (iblk m c 3 t) (iblk m c 5 t) R
      = fun s e => vcArg m c (t : Fin 8) s ⟨R.val / 8, by omega⟩ e * vsArg m c ⟨R.val / 8, by omega⟩ := by
  funext s e
  have hR := R.isLt
  exact congrArg₂ (fun a b : EReal => a * b) (v_entry m c t s ⟨R.val / 8, by omega⟩ e)
    (vs_entry m c t ⟨(4 * s.val + R.val / 8) % 16, by omega⟩ ⟨R.val / 8, by omega⟩ (by dsimp only; omega) e)

theorem kn_code (c : Dev nD) (t : Fin cfg0.N) (h : Fin 4) (e : Fin 128) :
    code (iblk m c 1 t (ix3 0 h e : S1x4x128.Idx)) (iblk m c 3 t (ix3 2 ⟨h.val, by omega⟩ e : S4x32x128.Idx))
      = code (knArg m c (t : Fin 8) h e) (kiArg m c h) :=
  congrArg₂ code ((iblk1_apply m c t h e).trans (entry_kn m c (t : Fin 8) h e))
    (ki_entry m c t ⟨h.val, by omega⟩ h (by dsimp only; omega) e)

theorem vn_code (c : Dev nD) (t : Fin cfg0.N) (h : Fin 4) (e : Fin 128) :
    code (iblk m c 2 t (ix3 0 h e : S1x4x128.Idx)) (iblk m c 3 t (ix3 3 ⟨h.val, by omega⟩ e : S4x32x128.Idx))
      = code (vnArg m c (t : Fin 8) h e) (viArg m c h) :=
  congrArg₂ code ((iblk2_apply m c t h e).trans (entry_vn m c (t : Fin 8) h e))
    (vi_entry m c t ⟨h.val, by omega⟩ h (by dsimp only; omega) e)

theorem kn_rows (c : Dev nD) (t : Fin cfg0.N) (R : Fin 32) :
    knRow (iblk m c 1 t) (iblk m c 3 t) R
      = fun e => code (knArg m c (t : Fin 8) ⟨R.val / 8, by omega⟩ e) (kiArg m c ⟨R.val / 8, by omega⟩) * ksArg m c ⟨R.val / 8, by omega⟩ := by
  funext e
  have hR := R.isLt
  exact congrArg₂ (fun a b : EReal => a * b) (kn_code m c t ⟨R.val / 8, by omega⟩ e)
    (ks_entry m c t ⟨R.val / 8, by omega⟩ ⟨R.val / 8, by omega⟩ (by dsimp only; omega) e)

theorem vn_rows (c : Dev nD) (t : Fin cfg0.N) (R : Fin 32) :
    vnRow (iblk m c 2 t) (iblk m c 3 t) R
      = fun e => code (vnArg m c (t : Fin 8) ⟨R.val / 8, by omega⟩ e) (viArg m c ⟨R.val / 8, by omega⟩) * vsArg m c ⟨R.val / 8, by omega⟩ := by
  funext e
  have hR := R.isLt
  exact congrArg₂ (fun a b : EReal => a * b) (vn_code m c t ⟨R.val / 8, by omega⟩ e)
    (vs_entry m c t ⟨R.val / 8, by omega⟩ ⟨R.val / 8, by omega⟩ (by dsimp only; omega) e)

/-- What a point leaves in the attention output's block is its sequence's output. -/
theorem outY_block (c : Dev nD) (t : Fin cfg0.N) (R : Fin 32) (d : Fin 128) :
    outY (iblk m c 0 t) (iblk m c 1 t) (iblk m c 2 t) (iblk m c 3 t) (iblk m c 4 t) (iblk m c 5 t) (ix3 0 R d)
      = resY m c (ix3 (t : Fin 8) R d) := by
  refine (outY_attend (iblk m c 0 t) (iblk m c 1 t) (iblk m c 2 t) (iblk m c 3 t) (iblk m c 4 t) (iblk m c 5 t) R d).trans ?_
  rw [q_rows, k_rows, v_rows, kn_rows, vn_rows]
  rfl

theorem outK_block (c : Dev nD) (t : Fin cfg0.N) (h : Fin 4) (d : Fin 128) :
    outK (iblk m c 1 t) (iblk m c 3 t) (ix3 0 h d) = resK m c (ix3 (t : Fin 8) h d) :=
  (outK_apply (iblk m c 1 t) (iblk m c 3 t) h d).trans (kn_code m c t h d)

theorem outV_block (c : Dev nD) (t : Fin cfg0.N) (h : Fin 4) (d : Fin 128) :
    outV (iblk m c 2 t) (iblk m c 3 t) (ix3 0 h d) = resV m c (ix3 (t : Fin 8) h d) :=
  (outV_apply (iblk m c 2 t) (iblk m c 3 t) h d).trans (vn_code m c t h d)

/-- What a point writes back to window 6's array is its block of the result. -/
theorem flushed6_eq (c : Dev nD) (t : Fin cfg0.N) :
    (dats m 0 c).flushed 6 t = ((cfg0.win 6).blk t).view.read (Elt Ideal) (resY m c) := by
  show (cfg0.win 6).cut (grid0.coords t) ((dats m 0 c).after 6 t) = _
  rw [after0_6]
  have key : ∀ j : S1x32x128.Idx, outY (iblk m c 0 t) (iblk m c 1 t) (iblk m c 2 t) (iblk m c 3 t) (iblk m c 4 t) (iblk m c 5 t) j = resY m c (((cfg0.win 6).blk t).view.emb j) := fun j => by
    have hj : j = (ix3 0 (j 1) (j 2) : S1x32x128.Idx) := by
      funext a
      match a with
      | ⟨0, _⟩ => exact Fin.ext (by have := (j 0).isLt; show (j 0).val = 0; exact Nat.lt_one_iff.mp this)
      | ⟨1, _⟩ => rfl
      | ⟨2, _⟩ => rfl
    rw [hj]
    exact (outY_block m c t (j 1) (j 2)).trans (congrArg (resY m c) (emb6 t (j 1) (j 2)).symm)
  exact funext fun j => key j

/-- The blocks cover the array. -/
theorem covered6 (i : S8x32x128.Idx) :
    ∃ t : Fin cfg0.N, (cfg0.win 6).flush t = true ∧ i ∈ ((cfg0.win 6).blk t).view.set := by
  have e : (ix3 (i 0) (i 1) (i 2) : S8x32x128.Idx) = i := by
    funext a
    match a with
    | ⟨0, _⟩ => rfl
    | ⟨1, _⟩ => rfl
    | ⟨2, _⟩ => rfl
  exact ⟨(i 0 : Fin 8), flush0_6 _, Eq.mp (congrArg (fun x => x ∈ ((cfg0.win 6).blk (i 0 : Fin 8)).view.set)
    ((emb6 (i 0 : Fin 8) (i 1) (i 2)).trans e)) (((cfg0.win 6).blk (i 0 : Fin 8)).view.emb_mem_set (ix3 0 (i 1) (i 2) : S1x32x128.Idx))⟩

/-- The array after the run. -/
theorem final6 (c : Dev nD) : (dats m 0 c).arrAt 6 cfg0.N = resY m c :=
  (dats m 0 c).arrAt_eq_of_cover 6 (resY m c) (fun t _ => flushed6_eq m c t) covered6

/-- What a point writes back to window 7's array is its block of the result. -/
theorem flushed7_eq (c : Dev nD) (t : Fin cfg0.N) :
    (dats m 0 c).flushed 7 t = ((cfg0.win 7).blk t).view.read (Elt Ideal) (resK m c) := by
  show (cfg0.win 7).cut (grid0.coords t) ((dats m 0 c).after 7 t) = _
  rw [after0_7]
  have key : ∀ j : S1x4x128.Idx, outK (iblk m c 1 t) (iblk m c 3 t) j = resK m c (((cfg0.win 7).blk t).view.emb j) := fun j => by
    have hj : j = (ix3 0 (j 1) (j 2) : S1x4x128.Idx) := by
      funext a
      match a with
      | ⟨0, _⟩ => exact Fin.ext (by have := (j 0).isLt; show (j 0).val = 0; exact Nat.lt_one_iff.mp this)
      | ⟨1, _⟩ => rfl
      | ⟨2, _⟩ => rfl
    rw [hj]
    exact (outK_block m c t (j 1) (j 2)).trans (congrArg (resK m c) (emb7 t (j 1) (j 2)).symm)
  exact funext fun j => key j

/-- The blocks cover the array. -/
theorem covered7 (i : S8x4x128.Idx) :
    ∃ t : Fin cfg0.N, (cfg0.win 7).flush t = true ∧ i ∈ ((cfg0.win 7).blk t).view.set := by
  have e : (ix3 (i 0) (i 1) (i 2) : S8x4x128.Idx) = i := by
    funext a
    match a with
    | ⟨0, _⟩ => rfl
    | ⟨1, _⟩ => rfl
    | ⟨2, _⟩ => rfl
  exact ⟨(i 0 : Fin 8), flush0_7 _, Eq.mp (congrArg (fun x => x ∈ ((cfg0.win 7).blk (i 0 : Fin 8)).view.set)
    ((emb7 (i 0 : Fin 8) (i 1) (i 2)).trans e)) (((cfg0.win 7).blk (i 0 : Fin 8)).view.emb_mem_set (ix3 0 (i 1) (i 2) : S1x4x128.Idx))⟩

/-- The array after the run. -/
theorem final7 (c : Dev nD) : (dats m 0 c).arrAt 7 cfg0.N = resK m c :=
  (dats m 0 c).arrAt_eq_of_cover 7 (resK m c) (fun t _ => flushed7_eq m c t) covered7

/-- What a point writes back to window 8's array is its block of the result. -/
theorem flushed8_eq (c : Dev nD) (t : Fin cfg0.N) :
    (dats m 0 c).flushed 8 t = ((cfg0.win 8).blk t).view.read (Elt Ideal) (resV m c) := by
  show (cfg0.win 8).cut (grid0.coords t) ((dats m 0 c).after 8 t) = _
  rw [after0_8]
  have key : ∀ j : S1x4x128.Idx, outV (iblk m c 2 t) (iblk m c 3 t) j = resV m c (((cfg0.win 8).blk t).view.emb j) := fun j => by
    have hj : j = (ix3 0 (j 1) (j 2) : S1x4x128.Idx) := by
      funext a
      match a with
      | ⟨0, _⟩ => exact Fin.ext (by have := (j 0).isLt; show (j 0).val = 0; exact Nat.lt_one_iff.mp this)
      | ⟨1, _⟩ => rfl
      | ⟨2, _⟩ => rfl
    rw [hj]
    exact (outV_block m c t (j 1) (j 2)).trans (congrArg (resV m c) (emb8 t (j 1) (j 2)).symm)
  exact funext fun j => key j

/-- The blocks cover the array. -/
theorem covered8 (i : S8x4x128.Idx) :
    ∃ t : Fin cfg0.N, (cfg0.win 8).flush t = true ∧ i ∈ ((cfg0.win 8).blk t).view.set := by
  have e : (ix3 (i 0) (i 1) (i 2) : S8x4x128.Idx) = i := by
    funext a
    match a with
    | ⟨0, _⟩ => rfl
    | ⟨1, _⟩ => rfl
    | ⟨2, _⟩ => rfl
  exact ⟨(i 0 : Fin 8), flush0_8 _, Eq.mp (congrArg (fun x => x ∈ ((cfg0.win 8).blk (i 0 : Fin 8)).view.set)
    ((emb8 (i 0 : Fin 8) (i 1) (i 2)).trans e)) (((cfg0.win 8).blk (i 0 : Fin 8)).view.emb_mem_set (ix3 0 (i 1) (i 2) : S1x4x128.Idx))⟩

/-- The array after the run. -/
theorem final8 (c : Dev nD) : (dats m 0 c).arrAt 8 cfg0.N = resV m c :=
  (dats m 0 c).arrAt_eq_of_cover 8 (resV m c) (fun t _ => flushed8_eq m c t) covered8

/-! ## The run -/

/-- Argument 0 is as launched after the run. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument 1 is as launched after the run. -/
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 is as launched after the run. -/
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is as launched after the run. -/
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument 4 is as launched after the run. -/
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument 5 is as launched after the run. -/
theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument 6 is as launched after the run. -/
theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- THE RUN of the kernel: each result array holds its function of the arguments, the arguments unchanged. -/
theorem run_values : θ_run defs (onTc (τ := τ) (main (F := Ideal))) ⟨m, fun _ => 0, ρ⟩ fun r => ∀ c : Dev nD,
      r.2.mem ((c : Thread nD τ).loc main_v47_0) = resY m c
      ∧ r.2.mem ((c : Thread nD τ).loc main_v47_1) = resK m c
      ∧ r.2.mem ((c : Thread nD τ).loc main_v47_2) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 6).trans (final6 m c), ((h c).1 7).trans (final7 m c), ((h c).1 8).trans (final8 m c),
      kept0 m r h c, kept1 m r h c, kept2 m r h c, kept3 m r h c, kept4 m r h c, kept5 m r h c, kept6 m r h c⟩)
    (run_main m ρ)

end Cert.KernelIdeal.Val

end
-- ==== Proof.Reference.lean ====
/-
  THE REFERENCE'S BODY at an index, over the extended reals: softmax attention of the rows, and the new token's codes.
-/
module

public import proofs.«01_k».proof.Proof.Gen.ReferenceIdeal.Value
public import proofs.«01_k».proof.Proof.Attention
public import Idealize.ShloMosaic.Lib.Pointwise

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL.Sem
open Cert.Attention

/-- A maximum started from minus infinity is the supremum. -/
theorem fold_negInf {α : Type} (s : Finset α) (f : α → EReal) :
    Finset.fold max (Ideal.ofBits FTy.f32 0xFF800000#32) f s = s.sup f := by
  rw [show Ideal.ofBits FTy.f32 0xFF800000#32 = (⊥ : EReal) by simp [Ideal.ofBits, Ideal.ieee], fold_max]

section
variable (P0 : Vec Ideal S8x4x8x128 .bf16) (P1 : Vec Ideal S8x8192x4x128 .fp8e4m3) (P2 : Vec Ideal S4x1 .f32)
  (P3 : Vec Ideal S8x4x128 .bf16) (P4 : Vec Ideal S4x1 .f32) (P5 : Vec Ideal S8x8192x4x128 .fp8e4m3)
  (P6 : Vec Ideal S4x1 .f32) (P7 : Vec Ideal S8x4x128 .bf16) (P8 : Vec Ideal S4x1 .f32)

/-- A query head's row. -/
abbrev qRow (b : Fin 8) (R : Fin 32) : Fin 128 → EReal :=
  fun e => P0 (ix4 b ⟨R.val / 8, by omega⟩ ⟨R.val % 8, Nat.mod_lt _ (by decide)⟩ e)
/-- A position's dequantised row, for the KV head of query head `R`: from the codes `C` and the scales `S`. -/
abbrev row (C : Vec Ideal S8x8192x4x128 .fp8e4m3) (S : Vec Ideal S4x1 .f32) (b : Fin 8) (R : Fin 32) (t : Fin 8192) : Fin 128 → EReal :=
  fun e => C (ix4 b t ⟨R.val / 8, by omega⟩ e) * S (ix2 ⟨R.val / 8, by omega⟩ 0)
/-- The new token's dequantised row: from its entries `N`, the scales' inverses `I` and the scales `S`. -/
abbrev newRow (N : Vec Ideal S8x4x128 .bf16) (I S : Vec Ideal S4x1 .f32) (b : Fin 8) (R : Fin 32) : Fin 128 → EReal :=
  fun e => code (N (ix3 b ⟨R.val / 8, by omega⟩ e)) (I (ix2 ⟨R.val / 8, by omega⟩ 0)) * S (ix2 ⟨R.val / 8, by omega⟩ 0)

/-- The reference's attention output, at an index: softmax attention of the rows. -/
theorem payY_apply (b : Fin 8) (R : Fin 32) (d : Fin 128) :
    k0_pay1 (k0_pay6 P5 P6) (k0_pay7 (k0_pay3 P7 P8) P6) (k0_pay9 (k0_pay4 P1) (k0_pay5 P2) P0) (k0_pay10 (k0_pay2 P3 P4) P2 P0) (ix3 b R d)
      = attend (qRow P0 b R) (row P1 P2 b R) (row P5 P6 b R) (newRow P3 P4 P2 b R) (newRow P7 P8 P6 b R) d := by
  pointwise [k0_pay1, k0_pay6, k0_pay7, k0_pay3, k0_pay9, k0_pay4, k0_pay5, k0_pay10, k0_pay2, k0_pay8]
  simp only [fold_negInf]
  rfl

/-- The reference's new codes, at an index. -/
theorem payK_apply (b : Fin 8) (h : Fin 4) (d : Fin 128) :
    k0_pay2 P3 P4 (ix3 b h d) = code (P3 (ix3 b h d)) (P4 (ix2 h 0)) := by
  pointwise [k0_pay2]
  rfl

theorem payV_apply (b : Fin 8) (h : Fin 4) (d : Fin 128) :
    k0_pay3 P7 P8 (ix3 b h d) = code (P7 (ix3 b h d)) (P8 (ix2 h 0)) := by
  pointwise [k0_pay3]
  rfl

end

end Cert.ReferenceIdeal.Val

end
-- ==== Proof.RefEntry.lean ====
/-
  WHAT THE REFERENCE'S REGION FINDS in its operands, in terms of the arguments: the reshaped queries and new token, the
  caches, the scales and their inverses.
-/
module

public import proofs.«01_k».proof.Proof.Gen.ReferenceIdeal.Value
public import proofs.«01_k».proof.Proof.Attention
public import Idealize.ShloMosaic.Lib.Pointwise
public import Idealize.ShloMosaic.Lib.Claim
public import Idealize.ShloMosaic.Lib.StableHlo.ReadAt

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL.Sem
open Cert.Attention

variable (m : (ℓ : Loc nD τ sig) → Buf (Elt Ideal) ℓ)

/-! ## The arguments, index by index -/

/-- The queries. -/
abbrev xArg (c : Dev nD) (b : Fin 8) (e : Fin 4096) : EReal := m ((c : Thread nD τ).loc main_arg0) (ix3 b 0 e)
/-- The new token's keys. -/
abbrev knArg (c : Dev nD) (b : Fin 8) (h : Fin 4) (e : Fin 128) : EReal := m ((c : Thread nD τ).loc main_arg1) (ix4 b 0 h e)
/-- The new token's values. -/
abbrev vnArg (c : Dev nD) (b : Fin 8) (h : Fin 4) (e : Fin 128) : EReal := m ((c : Thread nD τ).loc main_arg2) (ix4 b 0 h e)
/-- The cached key codes. -/
abbrev kcArg (c : Dev nD) (b : Fin 8) (t : Fin 8192) (h : Fin 4) (e : Fin 128) : EReal :=
  m ((c : Thread nD τ).loc main_arg3) (ix4 b t h e)
/-- The key scales. -/
abbrev ksArg (c : Dev nD) (h : Fin 4) : EReal := m ((c : Thread nD τ).loc main_arg4) (ix1 h)
/-- The cached value codes. -/
abbrev vcArg (c : Dev nD) (b : Fin 8) (t : Fin 8192) (h : Fin 4) (e : Fin 128) : EReal :=
  m ((c : Thread nD τ).loc main_arg5) (ix4 b t h e)
/-- The value scales. -/
abbrev vsArg (c : Dev nD) (h : Fin 4) : EReal := m ((c : Thread nD τ).loc main_arg6) (ix1 h)

/-- The tables of powers of two, as the program holds them: one pair for the keys, one for the values. -/
abbrev tab0 (i : Fin 254) : BitVec 32 := lit0 (S254.rowMajor (ix1 i))
abbrev tab1 (i : Fin 254) : BitVec 32 := lit1 (S254.rowMajor (ix1 i))
abbrev tab2 (i : Fin 254) : BitVec 32 := lit2 (S254.rowMajor (ix1 i))
abbrev tab3 (i : Fin 254) : BitVec 32 := lit3 (S254.rowMajor (ix1 i))

/-! ## What the region finds in its operands -/

theorem entry_x (c : Dev nD) (b : Fin 8) (h : Fin 4) (g : Fin 8) (d : Fin 128) :
    V m c main_v4 (ix4 b h g d) = xArg m c b ⟨h.val * 1024 + g.val * 128 + d.val, by omega⟩ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

theorem entry_kn (c : Dev nD) (b : Fin 8) (h : Fin 4) (d : Fin 128) : V m c main_v5 (ix3 b h d) = knArg m c b h d := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

theorem entry_vn (c : Dev nD) (b : Fin 8) (h : Fin 4) (d : Fin 128) : V m c main_v6 (ix3 b h d) = vnArg m c b h d := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

theorem entry_kc (c : Dev nD) (b : Fin 8) (t : Fin 8192) (h : Fin 4) (d : Fin 128) :
    V m c main_arg3 (ix4 b t h d) = kcArg m c b t h d := congrFun (V_main_arg3 m c) _

theorem entry_vc (c : Dev nD) (b : Fin 8) (t : Fin 8192) (h : Fin 4) (d : Fin 128) :
    V m c main_arg5 (ix4 b t h d) = vcArg m c b t h d := congrFun (V_main_arg5 m c) _

theorem entry_ks (c : Dev nD) (h : Fin 4) : V m c main_v7 (ix2 h 0) = ksArg m c h := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

theorem entry_vs (c : Dev nD) (h : Fin 4) : V m c main_v24 (ix2 h 0) = vsArg m c h := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at

theorem entry_ki (c : Dev nD) (h : Fin 4) : V m c main_v23 (ix2 h 0) = inverse tab0 tab1 (ksArg m c h) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  rfl

theorem entry_vi (c : Dev nD) (h : Fin 4) : V m c main_v40 (ix2 h 0) = inverse tab2 tab3 (vsArg m c h) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_reads_at
  rfl

end Cert.ReferenceIdeal.Val

end
-- ==== Proof.RefArrays.lean ====
/-
  THE REFERENCE'S RUN BY VALUES: its one grid point holds every array whole, so the result arrays end holding the softmax
  attention and the new token's codes, as functions of the arguments.
-/
module

public import proofs.«01_k».proof.Proof.Reference
public import proofs.«01_k».proof.Proof.RefEntry
public import Idealize.ShloMosaic.Lib.Pipeline.Value

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL.Sem
open Cert.Attention

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A load of the whole of a block reads the block. -/
theorem ld0 (x : Vec Ideal S8x4x128 .bf16) : View.ld x r0_0 = x := View.ld_unit_zero hz3 _ x
theorem ld1 (x : Vec Ideal S4x1 .f32) : View.ld x r0_1 = x := View.ld_unit_zero hz2 _ x
theorem ld2 (x : Vec Ideal S8x8192x4x128 .fp8e4m3) : View.ld x r0_2 = x := View.ld_unit_zero hz4 _ x
theorem ld3 (x : Vec Ideal S8x4x8x128 .bf16) : View.ld x r0_3 = x := View.ld_unit_zero hz4 _ x

/-! ## What the run leaves in the output blocks: one store of the whole block each, over loads of whole blocks -/

section
variable (x0 : Vec Ideal S8x4x8x128 .bf16) (x1 x2 : Vec Ideal S8x4x128 .bf16) (x3 : Vec Ideal S8x8192x4x128 .fp8e4m3)
  (x4 x5 : Vec Ideal S4x1 .f32) (x6 : Vec Ideal S8x8192x4x128 .fp8e4m3) (x7 x8 : Vec Ideal S4x1 .f32)

theorem outY_eq : out0_9 x0 x1 x2 x3 x4 x5 x6 x7 x8
    = k0_pay1 (k0_pay6 x6 x7) (k0_pay7 (k0_pay3 x2 x8) x7) (k0_pay9 (k0_pay4 x3) (k0_pay5 x4) x0) (k0_pay10 (k0_pay2 x1 x5) x4 x0) := by
  unfold out0_9
  rw [View.canon_unit_zero hz3]
  simp only [ld0, ld1, ld2, ld3]

theorem outK_eq : out0_10 x0 x1 x2 x3 x4 x5 x6 x7 x8 = k0_pay2 x1 x5 := by
  unfold out0_10
  rw [View.canon_unit_zero hz3]
  simp only [ld0, ld1, ld2, ld3]

theorem outV_eq : out0_11 x0 x1 x2 x3 x4 x5 x6 x7 x8 = k0_pay3 x2 x8 := by
  unfold out0_11
  rw [View.canon_unit_zero hz3]
  simp only [ld0, ld1, ld2, ld3]

end

/-- The one grid point. -/
abbrev pt : Fin cfg0.N := ⟨0, by decide⟩

/-! ## The windows' blocks: at the one grid point, the whole arrays -/

theorem index0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

theorem emb0 (t : Fin cfg0.N) (j : S8x4x8x128.Idx) : ((cfg0.win 0).blk t).view.emb j = j := by
  obtain ⟨e0, e1, e2, e3⟩ := index0 t
  funext a; apply Fin.ext
  match a with
  | ⟨0, _⟩ => show win0_0.index t (0 : Fin 4) * 8 + 1 * (j 0).val = (j 0).val; omega
  | ⟨1, _⟩ => show win0_0.index t (1 : Fin 4) * 4 + 1 * (j 1).val = (j 1).val; omega
  | ⟨2, _⟩ => show win0_0.index t (2 : Fin 4) * 8 + 1 * (j 2).val = (j 2).val; omega
  | ⟨3, _⟩ => show win0_0.index t (3 : Fin 4) * 128 + 1 * (j 3).val = (j 3).val; omega

theorem iblk0_eq (c : Dev nD) (t : Fin cfg0.N) : iblk m c 0 t = V m c main_v4 :=
  funext fun j => congrArg (V m c main_v4) (emb0 t j)

theorem index1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (j : S8x4x128.Idx) : ((cfg0.win 1).blk t).view.emb j = j := by
  obtain ⟨e0, e1, e2⟩ := index1 t
  funext a; apply Fin.ext
  match a with
  | ⟨0, _⟩ => show win0_1.index t (0 : Fin 3) * 8 + 1 * (j 0).val = (j 0).val; omega
  | ⟨1, _⟩ => show win0_1.index t (1 : Fin 3) * 4 + 1 * (j 1).val = (j 1).val; omega
  | ⟨2, _⟩ => show win0_1.index t (2 : Fin 3) * 128 + 1 * (j 2).val = (j 2).val; omega

theorem iblk1_eq (c : Dev nD) (t : Fin cfg0.N) : iblk m c 1 t = V m c main_v5 :=
  funext fun j => congrArg (V m c main_v5) (emb1 t j)

theorem index2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (j : S8x4x128.Idx) : ((cfg0.win 2).blk t).view.emb j = j := by
  obtain ⟨e0, e1, e2⟩ := index2 t
  funext a; apply Fin.ext
  match a with
  | ⟨0, _⟩ => show win0_2.index t (0 : Fin 3) * 8 + 1 * (j 0).val = (j 0).val; omega
  | ⟨1, _⟩ => show win0_2.index t (1 : Fin 3) * 4 + 1 * (j 1).val = (j 1).val; omega
  | ⟨2, _⟩ => show win0_2.index t (2 : Fin 3) * 128 + 1 * (j 2).val = (j 2).val; omega

theorem iblk2_eq (c : Dev nD) (t : Fin cfg0.N) : iblk m c 2 t = V m c main_v6 :=
  funext fun j => congrArg (V m c main_v6) (emb2 t j)

theorem index3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

theorem emb3 (t : Fin cfg0.N) (j : S8x8192x4x128.Idx) : ((cfg0.win 3).blk t).view.emb j = j := by
  obtain ⟨e0, e1, e2, e3⟩ := index3 t
  funext a; apply Fin.ext
  match a with
  | ⟨0, _⟩ => show win0_3.index t (0 : Fin 4) * 8 + 1 * (j 0).val = (j 0).val; omega
  | ⟨1, _⟩ => show win0_3.index t (1 : Fin 4) * 8192 + 1 * (j 1).val = (j 1).val; omega
  | ⟨2, _⟩ => show win0_3.index t (2 : Fin 4) * 4 + 1 * (j 2).val = (j 2).val; omega
  | ⟨3, _⟩ => show win0_3.index t (3 : Fin 4) * 128 + 1 * (j 3).val = (j 3).val; omega

theorem iblk3_eq (c : Dev nD) (t : Fin cfg0.N) : iblk m c 3 t = V m c main_arg3 :=
  funext fun j => congrArg (V m c main_arg3) (emb3 t j)

theorem index4 : ∀ t : Fin cfg0.N, win0_4.index t (0 : Fin 2) = 0 ∧ win0_4.index t (1 : Fin 2) = 0 :=
  (by decide +kernel : ∀ t : Fin grid0.N, _)

theorem emb4 (t : Fin cfg0.N) (j : S4x1.Idx) : ((cfg0.win 4).blk t).view.emb j = j := by
  obtain ⟨e0, e1⟩ := index4 t
  funext a; apply Fin.ext
  match a with
  | ⟨0, _⟩ => show win0_4.index t (0 : Fin 2) * 4 + 1 * (j 0).val = (j 0).val; omega
  | ⟨1, _⟩ => show win0_4.index t (1 : Fin 2) * 1 + 1 * (j 1).val = (j 1).val; omega

theorem iblk4_eq (c : Dev nD) (t : Fin cfg0.N) : iblk m c 4 t = V m c main_v7 :=
  funext fun j => congrArg (V m c main_v7) (emb4 t j)

theorem index5 : ∀ t : Fin cfg0.N, win0_5.index t (0 : Fin 2) = 0 ∧ win0_5.index t (1 : Fin 2) = 0 :=
  (by decide +kernel : ∀ t : Fin grid0.N, _)

theorem emb5 (t : Fin cfg0.N) (j : S4x1.Idx) : ((cfg0.win 5).blk t).view.emb j = j := by
  obtain ⟨e0, e1⟩ := index5 t
  funext a; apply Fin.ext
  match a with
  | ⟨0, _⟩ => show win0_5.index t (0 : Fin 2) * 4 + 1 * (j 0).val = (j 0).val; omega
  | ⟨1, _⟩ => show win0_5.index t (1 : Fin 2) * 1 + 1 * (j 1).val = (j 1).val; omega

theorem iblk5_eq (c : Dev nD) (t : Fin cfg0.N) : iblk m c 5 t = V m c main_v23 :=
  funext fun j => congrArg (V m c main_v23) (emb5 t j)

theorem index6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

theorem emb6 (t : Fin cfg0.N) (j : S8x8192x4x128.Idx) : ((cfg0.win 6).blk t).view.emb j = j := by
  obtain ⟨e0, e1, e2, e3⟩ := index6 t
  funext a; apply Fin.ext
  match a with
  | ⟨0, _⟩ => show win0_6.index t (0 : Fin 4) * 8 + 1 * (j 0).val = (j 0).val; omega
  | ⟨1, _⟩ => show win0_6.index t (1 : Fin 4) * 8192 + 1 * (j 1).val = (j 1).val; omega
  | ⟨2, _⟩ => show win0_6.index t (2 : Fin 4) * 4 + 1 * (j 2).val = (j 2).val; omega
  | ⟨3, _⟩ => show win0_6.index t (3 : Fin 4) * 128 + 1 * (j 3).val = (j 3).val; omega

theorem iblk6_eq (c : Dev nD) (t : Fin cfg0.N) : iblk m c 6 t = V m c main_arg5 :=
  funext fun j => congrArg (V m c main_arg5) (emb6 t j)

theorem index7 : ∀ t : Fin cfg0.N, win0_7.index t (0 : Fin 2) = 0 ∧ win0_7.index t (1 : Fin 2) = 0 :=
  (by decide +kernel : ∀ t : Fin grid0.N, _)

theorem emb7 (t : Fin cfg0.N) (j : S4x1.Idx) : ((cfg0.win 7).blk t).view.emb j = j := by
  obtain ⟨e0, e1⟩ := index7 t
  funext a; apply Fin.ext
  match a with
  | ⟨0, _⟩ => show win0_7.index t (0 : Fin 2) * 4 + 1 * (j 0).val = (j 0).val; omega
  | ⟨1, _⟩ => show win0_7.index t (1 : Fin 2) * 1 + 1 * (j 1).val = (j 1).val; omega

theorem iblk7_eq (c : Dev nD) (t : Fin cfg0.N) : iblk m c 7 t = V m c main_v24 :=
  funext fun j => congrArg (V m c main_v24) (emb7 t j)

theorem index8 : ∀ t : Fin cfg0.N, win0_8.index t (0 : Fin 2) = 0 ∧ win0_8.index t (1 : Fin 2) = 0 :=
  (by decide +kernel : ∀ t : Fin grid0.N, _)

theorem emb8 (t : Fin cfg0.N) (j : S4x1.Idx) : ((cfg0.win 8).blk t).view.emb j = j := by
  obtain ⟨e0, e1⟩ := index8 t
  funext a; apply Fin.ext
  match a with
  | ⟨0, _⟩ => show win0_8.index t (0 : Fin 2) * 4 + 1 * (j 0).val = (j 0).val; omega
  | ⟨1, _⟩ => show win0_8.index t (1 : Fin 2) * 1 + 1 * (j 1).val = (j 1).val; omega

theorem iblk8_eq (c : Dev nD) (t : Fin cfg0.N) : iblk m c 8 t = V m c main_v40 :=
  funext fun j => congrArg (V m c main_v40) (emb8 t j)

theorem index9 : ∀ t : Fin cfg0.N, win0_9.index t (0 : Fin 3) = 0 ∧ win0_9.index t (1 : Fin 3) = 0 ∧ win0_9.index t (2 : Fin 3) = 0 :=
  (by decide +kernel : ∀ t : Fin grid0.N, _)

theorem emb9 (t : Fin cfg0.N) (j : S8x32x128.Idx) : ((cfg0.win 9).blk t).view.emb j = j := by
  obtain ⟨e0, e1, e2⟩ := index9 t
  funext a; apply Fin.ext
  match a with
  | ⟨0, _⟩ => show win0_9.index t (0 : Fin 3) * 8 + 1 * (j 0).val = (j 0).val; omega
  | ⟨1, _⟩ => show win0_9.index t (1 : Fin 3) * 32 + 1 * (j 1).val = (j 1).val; omega
  | ⟨2, _⟩ => show win0_9.index t (2 : Fin 3) * 128 + 1 * (j 2).val = (j 2).val; omega

theorem index10 : ∀ t : Fin cfg0.N, win0_10.index t (0 : Fin 3) = 0 ∧ win0_10.index t (1 : Fin 3) = 0 ∧ win0_10.index t (2 : Fin 3) = 0 :=
  (by decide +kernel : ∀ t : Fin grid0.N, _)

theorem emb10 (t : Fin cfg0.N) (j : S8x4x128.Idx) : ((cfg0.win 10).blk t).view.emb j = j := by
  obtain ⟨e0, e1, e2⟩ := index10 t
  funext a; apply Fin.ext
  match a with
  | ⟨0, _⟩ => show win0_10.index t (0 : Fin 3) * 8 + 1 * (j 0).val = (j 0).val; omega
  | ⟨1, _⟩ => show win0_10.index t (1 : Fin 3) * 4 + 1 * (j 1).val = (j 1).val; omega
  | ⟨2, _⟩ => show win0_10.index t (2 : Fin 3) * 128 + 1 * (j 2).val = (j 2).val; omega

theorem index11 : ∀ t : Fin cfg0.N, win0_11.index t (0 : Fin 3) = 0 ∧ win0_11.index t (1 : Fin 3) = 0 ∧ win0_11.index t (2 : Fin 3) = 0 :=
  (by decide +kernel : ∀ t : Fin grid0.N, _)

theorem emb11 (t : Fin cfg0.N) (j : S8x4x128.Idx) : ((cfg0.win 11).blk t).view.emb j = j := by
  obtain ⟨e0, e1, e2⟩ := index11 t
  funext a; apply Fin.ext
  match a with
  | ⟨0, _⟩ => show win0_11.index t (0 : Fin 3) * 8 + 1 * (j 0).val = (j 0).val; omega
  | ⟨1, _⟩ => show win0_11.index t (1 : Fin 3) * 4 + 1 * (j 1).val = (j 1).val; omega
  | ⟨2, _⟩ => show win0_11.index t (2 : Fin 3) * 128 + 1 * (j 2).val = (j 2).val; omega

/-! ## The result arrays -/

/-- The inverses of the scales, as the reference computes them. -/
abbrev kiArg (c : Dev nD) (h : Fin 4) : EReal := inverse tab0 tab1 (ksArg m c h)
abbrev viArg (c : Dev nD) (h : Fin 4) : EReal := inverse tab2 tab3 (vsArg m c h)

/-- The three result arrays, as functions of the arguments. -/
def resY (c : Dev nD) : (⟨S8x32x128, .bf16⟩ : BufTy).Contents (Elt Ideal) := fun i =>
  output (xArg m c) (knArg m c) (vnArg m c) (kcArg m c) (vcArg m c) (ksArg m c) (vsArg m c) (kiArg m c) (viArg m c) (i 0) (i 1) (i 2)
def resK (c : Dev nD) : (⟨S8x4x128, .fp8e4m3⟩ : BufTy).Contents (Elt Ideal) := fun i =>
  code (knArg m c (i 0) (i 1) (i 2)) (kiArg m c (i 1))
def resV (c : Dev nD) : (⟨S8x4x128, .fp8e4m3⟩ : BufTy).Contents (Elt Ideal) := fun i =>
  code (vnArg m c (i 0) (i 1) (i 2)) (viArg m c (i 1))

theorem q_rows (c : Dev nD) (b : Fin 8) (R : Fin 32) :
    qRow (V m c main_v4) b R = fun e => xArg m c b ⟨R.val * 128 + e.val, by omega⟩ := by
  funext e
  have hR := R.isLt
  refine (entry_x m c b ⟨R.val / 8, by omega⟩ ⟨R.val % 8, Nat.mod_lt _ (by decide)⟩ e).trans ?_
  exact congrArg (xArg m c b) (Fin.ext (by dsimp only; omega))

theorem k_rows (c : Dev nD) (b : Fin 8) (R : Fin 32) :
    row (V m c main_arg3) (V m c main_v7) b R
      = fun s e => kcArg m c b s ⟨R.val / 8, by omega⟩ e * ksArg m c ⟨R.val / 8, by omega⟩ := by
  funext s e
  exact congrArg₂ (fun a b : EReal => a * b) (entry_kc m c b s _ e) (entry_ks m c _)

theorem v_rows (c : Dev nD) (b : Fin 8) (R : Fin 32) :
    row (V m c main_arg5) (V m c main_v24) b R
      = fun s e => vcArg m c b s ⟨R.val / 8, by omega⟩ e * vsArg m c ⟨R.val / 8, by omega⟩ := by
  funext s e
  exact congrArg₂ (fun a b : EReal => a * b) (entry_vc m c b s _ e) (entry_vs m c _)

theorem kn_rows (c : Dev nD) (b : Fin 8) (R : Fin 32) :
    newRow (V m c main_v5) (V m c main_v23) (V m c main_v7) b R
      = fun e => code (knArg m c b ⟨R.val / 8, by omega⟩ e) (kiArg m c ⟨R.val / 8, by omega⟩) * ksArg m c ⟨R.val / 8, by omega⟩ := by
  funext e
  exact congrArg₂ (fun a b : EReal => a * b) (congrArg₂ code (entry_kn m c b _ e) (entry_ki m c _)) (entry_ks m c _)

theorem vn_rows (c : Dev nD) (b : Fin 8) (R : Fin 32) :
    newRow (V m c main_v6) (V m c main_v40) (V m c main_v24) b R
      = fun e => code (vnArg m c b ⟨R.val / 8, by omega⟩ e) (viArg m c ⟨R.val / 8, by omega⟩) * vsArg m c ⟨R.val / 8, by omega⟩ := by
  funext e
  exact congrArg₂ (fun a b : EReal => a * b) (congrArg₂ code (entry_vn m c b _ e) (entry_vi m c _)) (entry_vs m c _)

/-- Attention over the rows that the region finds is the result's entry. -/
theorem rows_res (c : Dev nD) (b : Fin 8) (R : Fin 32) (d : Fin 128) :
    attend (qRow (V m c main_v4) b R) (row (V m c main_arg3) (V m c main_v7) b R) (row (V m c main_arg5) (V m c main_v24) b R)
      (newRow (V m c main_v5) (V m c main_v23) (V m c main_v7) b R) (newRow (V m c main_v6) (V m c main_v40) (V m c main_v24) b R) d
        = resY m c (ix3 b R d) := by
  rw [q_rows, k_rows, v_rows, kn_rows, vn_rows]
  rfl

/-- The attention output's block is the result. -/
theorem outY_res (c : Dev nD) :
    out0_9 (V m c main_v4) (V m c main_v5) (V m c main_v6) (V m c main_arg3) (V m c main_v7) (V m c main_v23) (V m c main_arg5) (V m c main_v24) (V m c main_v40)
      = resY m c := by
  rw [outY_eq]
  have key : ∀ j : S8x32x128.Idx, k0_pay1 (k0_pay6 (V m c main_arg5) (V m c main_v24)) (k0_pay7 (k0_pay3 (V m c main_v6) (V m c main_v40)) (V m c main_v24))
      (k0_pay9 (k0_pay4 (V m c main_arg3)) (k0_pay5 (V m c main_v7)) (V m c main_v4)) (k0_pay10 (k0_pay2 (V m c main_v5) (V m c main_v23)) (V m c main_v7) (V m c main_v4)) j
        = resY m c j := fun j => by
    rw [eq_ix3 j]
    refine (payY_apply (V m c main_v4) (V m c main_arg3) (V m c main_v7) (V m c main_v5) (V m c main_v23) (V m c main_arg5) (V m c main_v24) (V m c main_v6)
      (V m c main_v40) (j 0) (j 1) (j 2)).trans ?_
    exact rows_res m c (j 0) (j 1) (j 2)
  exact funext fun j => key j

theorem outK_res (c : Dev nD) :
    out0_10 (V m c main_v4) (V m c main_v5) (V m c main_v6) (V m c main_arg3) (V m c main_v7) (V m c main_v23) (V m c main_arg5) (V m c main_v24) (V m c main_v40)
      = resK m c := by
  rw [outK_eq]
  have key : ∀ j : S8x4x128.Idx, k0_pay2 (V m c main_v5) (V m c main_v23) j = resK m c j := fun j => by
    rw [eq_ix3 j]
    exact (payK_apply (V m c main_v5) (V m c main_v23) (j 0) (j 1) (j 2)).trans
      (congrArg₂ code (entry_kn m c (j 0) (j 1) (j 2)) (entry_ki m c (j 1)))
  exact funext fun j => key j

theorem outV_res (c : Dev nD) :
    out0_11 (V m c main_v4) (V m c main_v5) (V m c main_v6) (V m c main_arg3) (V m c main_v7) (V m c main_v23) (V m c main_arg5) (V m c main_v24) (V m c main_v40)
      = resV m c := by
  rw [outV_eq]
  have key : ∀ j : S8x4x128.Idx, k0_pay3 (V m c main_v6) (V m c main_v40) j = resV m c j := fun j => by
    rw [eq_ix3 j]
    exact (payV_apply (V m c main_v6) (V m c main_v40) (j 0) (j 1) (j 2)).trans
      (congrArg₂ code (entry_vn m c (j 0) (j 1) (j 2)) (entry_vi m c (j 1)))
  exact funext fun j => key j

/-- What the point writes back to window 9's array is its block of the result. -/
theorem flushed9_eq (c : Dev nD) (t : Fin cfg0.N) :
    (dats m 0 c).flushed 9 t = ((cfg0.win 9).blk t).view.read (Elt Ideal) (resY m c) := by
  rw [Cert.ReferenceIdeal.Value.flushed9, iblk0_eq, iblk1_eq, iblk2_eq, iblk3_eq, iblk4_eq, iblk5_eq, iblk6_eq, iblk7_eq, iblk8_eq, outY_res]
  have key : ∀ j : S8x32x128.Idx, resY m c j = resY m c (((cfg0.win 9).blk t).view.emb j) := fun j => congrArg (resY m c) (emb9 t j).symm
  exact funext fun j => key j

/-- The one block covers the array. -/
theorem covered9 (i : S8x32x128.Idx) :
    ∃ t : Fin cfg0.N, (cfg0.win 9).flush t = true ∧ i ∈ ((cfg0.win 9).blk t).view.set :=
  ⟨pt, flush0_9 _, Eq.mp (congrArg (fun x : S8x32x128.Idx => x ∈ ((cfg0.win 9).blk pt).view.set) (emb9 pt i)) (((cfg0.win 9).blk pt).view.emb_mem_set i)⟩

/-- The array after the run. -/
theorem final9 (c : Dev nD) : (dats m 0 c).arrAt 9 cfg0.N = resY m c :=
  (dats m 0 c).arrAt_eq_of_cover 9 (resY m c) (fun t _ => flushed9_eq m c t) covered9

/-- What the point writes back to window 10's array is its block of the result. -/
theorem flushed10_eq (c : Dev nD) (t : Fin cfg0.N) :
    (dats m 0 c).flushed 10 t = ((cfg0.win 10).blk t).view.read (Elt Ideal) (resK m c) := by
  rw [Cert.ReferenceIdeal.Value.flushed10, iblk0_eq, iblk1_eq, iblk2_eq, iblk3_eq, iblk4_eq, iblk5_eq, iblk6_eq, iblk7_eq, iblk8_eq, outK_res]
  have key : ∀ j : S8x4x128.Idx, resK m c j = resK m c (((cfg0.win 10).blk t).view.emb j) := fun j => congrArg (resK m c) (emb10 t j).symm
  exact funext fun j => key j

/-- The one block covers the array. -/
theorem covered10 (i : S8x4x128.Idx) :
    ∃ t : Fin cfg0.N, (cfg0.win 10).flush t = true ∧ i ∈ ((cfg0.win 10).blk t).view.set :=
  ⟨pt, flush0_10 _, Eq.mp (congrArg (fun x : S8x4x128.Idx => x ∈ ((cfg0.win 10).blk pt).view.set) (emb10 pt i)) (((cfg0.win 10).blk pt).view.emb_mem_set i)⟩

/-- The array after the run. -/
theorem final10 (c : Dev nD) : (dats m 0 c).arrAt 10 cfg0.N = resK m c :=
  (dats m 0 c).arrAt_eq_of_cover 10 (resK m c) (fun t _ => flushed10_eq m c t) covered10

/-- What the point writes back to window 11's array is its block of the result. -/
theorem flushed11_eq (c : Dev nD) (t : Fin cfg0.N) :
    (dats m 0 c).flushed 11 t = ((cfg0.win 11).blk t).view.read (Elt Ideal) (resV m c) := by
  rw [Cert.ReferenceIdeal.Value.flushed11, iblk0_eq, iblk1_eq, iblk2_eq, iblk3_eq, iblk4_eq, iblk5_eq, iblk6_eq, iblk7_eq, iblk8_eq, outV_res]
  have key : ∀ j : S8x4x128.Idx, resV m c j = resV m c (((cfg0.win 11).blk t).view.emb j) := fun j => congrArg (resV m c) (emb11 t j).symm
  exact funext fun j => key j

/-- The one block covers the array. -/
theorem covered11 (i : S8x4x128.Idx) :
    ∃ t : Fin cfg0.N, (cfg0.win 11).flush t = true ∧ i ∈ ((cfg0.win 11).blk t).view.set :=
  ⟨pt, flush0_11 _, Eq.mp (congrArg (fun x : S8x4x128.Idx => x ∈ ((cfg0.win 11).blk pt).view.set) (emb11 pt i)) (((cfg0.win 11).blk pt).view.emb_mem_set i)⟩

/-- The array after the run. -/
theorem final11 (c : Dev nD) : (dats m 0 c).arrAt 11 cfg0.N = resV m c :=
  (dats m 0 c).arrAt_eq_of_cover 11 (resV m c) (fun t _ => flushed11_eq m c t) covered11

/-- The reference's run: its three results are the functions of the arguments above, and its arguments are kept. -/
theorem run_values : θ_run defs (onTc (τ := τ) (main (F := Ideal))) ⟨m, fun _ => 0, ρ⟩ fun r => ∀ c : Dev nD,
      r.2.mem ((c : Thread nD τ).loc main_v41_0) = resY m c
      ∧ r.2.mem ((c : Thread nD τ).loc main_v41_1) = resK m c
      ∧ r.2.mem ((c : Thread nD τ).loc main_v41_2) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final9 m c), (h c).2.1.trans (final10 m c), (h c).2.2.1.trans (final11 m c), (h c).2.2.2⟩)
    (Cert.ReferenceIdeal.Value.run_blocks m ρ)

end Cert.ReferenceIdeal.Val

end
-- ==== Proof.Equation.lean ====
/-
  THE TWO PROGRAMS' RESULTS ARE THE SAME: from memories that agree on the arguments, the kernel's three result arrays and
  the reference's are the same functions of the same arguments and of the same tables of powers of two.
-/
module

public import proofs.«01_k».proof.Proof.Arrays
public import proofs.«01_k».proof.Proof.RefArrays

@[expose] public section

set_option maxRecDepth 16384

noncomputable section

namespace Cert.Equation

open Idealize.ShloMosaic Idealize.ShloMosaic.TcCoe
open Idealize.SL.Sem
open Cert.Attention

/-! ## The tables of powers of two are the same in the two programs -/

theorem tab0_eq : Cert.ReferenceIdeal.Val.tab0 = Cert.KernelIdeal.Val.tab0 :=
  funext (by decide +kernel : ∀ i : Fin 254, Cert.ReferenceIdeal.Val.tab0 i = Cert.KernelIdeal.Val.tab0 i)
theorem tab1_eq : Cert.ReferenceIdeal.Val.tab1 = Cert.KernelIdeal.Val.tab1 :=
  funext (by decide +kernel : ∀ i : Fin 254, Cert.ReferenceIdeal.Val.tab1 i = Cert.KernelIdeal.Val.tab1 i)
theorem tab2_eq : Cert.ReferenceIdeal.Val.tab2 = Cert.KernelIdeal.Val.tab2 :=
  funext (by decide +kernel : ∀ i : Fin 254, Cert.ReferenceIdeal.Val.tab2 i = Cert.KernelIdeal.Val.tab2 i)
theorem tab3_eq : Cert.ReferenceIdeal.Val.tab3 = Cert.KernelIdeal.Val.tab3 :=
  funext (by decide +kernel : ∀ i : Fin 254, Cert.ReferenceIdeal.Val.tab3 i = Cert.KernelIdeal.Val.tab3 i)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on the device. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable {m m' c}

/-! ## So are the arguments, index by index -/

theorem x_eq (h : Agree m m' c) : Cert.ReferenceIdeal.Val.xArg m' c = Cert.KernelIdeal.Val.xArg m c :=
  funext fun b => funext fun e => congrFun h.1 (ix3 b 0 e)
theorem kn_eq (h : Agree m m' c) : Cert.ReferenceIdeal.Val.knArg m' c = Cert.KernelIdeal.Val.knArg m c :=
  funext fun b => funext fun r => funext fun e => congrFun h.2.1 (ix4 b 0 r e)
theorem vn_eq (h : Agree m m' c) : Cert.ReferenceIdeal.Val.vnArg m' c = Cert.KernelIdeal.Val.vnArg m c :=
  funext fun b => funext fun r => funext fun e => congrFun h.2.2.1 (ix4 b 0 r e)
theorem kc_eq (h : Agree m m' c) : Cert.ReferenceIdeal.Val.kcArg m' c = Cert.KernelIdeal.Val.kcArg m c :=
  funext fun b => funext fun t => funext fun r => funext fun e => congrFun h.2.2.2.1 (ix4 b t r e)
theorem ks_eq (h : Agree m m' c) : Cert.ReferenceIdeal.Val.ksArg m' c = Cert.KernelIdeal.Val.ksArg m c :=
  funext fun r => congrFun h.2.2.2.2.1 (ix1 r)
theorem vc_eq (h : Agree m m' c) : Cert.ReferenceIdeal.Val.vcArg m' c = Cert.KernelIdeal.Val.vcArg m c :=
  funext fun b => funext fun t => funext fun r => funext fun e => congrFun h.2.2.2.2.2.1 (ix4 b t r e)
theorem vs_eq (h : Agree m m' c) : Cert.ReferenceIdeal.Val.vsArg m' c = Cert.KernelIdeal.Val.vsArg m c :=
  funext fun r => congrFun h.2.2.2.2.2.2 (ix1 r)
theorem ki_eq (h : Agree m m' c) : Cert.ReferenceIdeal.Val.kiArg m' c = Cert.KernelIdeal.Val.kiArg m c := by
  funext r
  show inverse Cert.ReferenceIdeal.Val.tab0 Cert.ReferenceIdeal.Val.tab1 (Cert.ReferenceIdeal.Val.ksArg m' c r) = _
  rw [tab0_eq, tab1_eq, ks_eq h]
theorem vi_eq (h : Agree m m' c) : Cert.ReferenceIdeal.Val.viArg m' c = Cert.KernelIdeal.Val.viArg m c := by
  funext r
  show inverse Cert.ReferenceIdeal.Val.tab2 Cert.ReferenceIdeal.Val.tab3 (Cert.ReferenceIdeal.Val.vsArg m' c r) = _
  rw [tab2_eq, tab3_eq, vs_eq h]

/-! ## And so the results -/

/-- The attention outputs are equal. -/
theorem resY_eq (h : Agree m m' c) : Cert.ReferenceIdeal.Val.resY m' c = Cert.KernelIdeal.Val.resY m c := by
  have key : ∀ i : Cert.KernelIdeal.S8x32x128.Idx,
      output (Cert.ReferenceIdeal.Val.xArg m' c) (Cert.ReferenceIdeal.Val.knArg m' c) (Cert.ReferenceIdeal.Val.vnArg m' c)
        (Cert.ReferenceIdeal.Val.kcArg m' c) (Cert.ReferenceIdeal.Val.vcArg m' c) (Cert.ReferenceIdeal.Val.ksArg m' c)
        (Cert.ReferenceIdeal.Val.vsArg m' c) (Cert.ReferenceIdeal.Val.kiArg m' c) (Cert.ReferenceIdeal.Val.viArg m' c) (i 0) (i 1) (i 2)
      = Cert.KernelIdeal.Val.resY m c i := fun i => by
    rw [x_eq h, kn_eq h, vn_eq h, kc_eq h, vc_eq h, ks_eq h, vs_eq h, ki_eq h, vi_eq h]
    rfl
  exact funext fun i => key i

/-- The new token's key codes are equal. -/
theorem resK_eq (h : Agree m m' c) : Cert.ReferenceIdeal.Val.resK m' c = Cert.KernelIdeal.Val.resK m c := by
  have key : ∀ i : Cert.KernelIdeal.S8x4x128.Idx,
      code (Cert.ReferenceIdeal.Val.knArg m' c (i 0) (i 1) (i 2)) (Cert.ReferenceIdeal.Val.kiArg m' c (i 1)) = Cert.KernelIdeal.Val.resK m c i := fun i => by
    rw [kn_eq h, ki_eq h]
    rfl
  exact funext fun i => key i

/-- The new token's value codes are equal. -/
theorem resV_eq (h : Agree m m' c) : Cert.ReferenceIdeal.Val.resV m' c = Cert.KernelIdeal.Val.resV m c := by
  have key : ∀ i : Cert.KernelIdeal.S8x4x128.Idx,
      code (Cert.ReferenceIdeal.Val.vnArg m' c (i 0) (i 1) (i 2)) (Cert.ReferenceIdeal.Val.viArg m' c (i 1)) = Cert.KernelIdeal.Val.resV m c i := fun i => by
    rw [vn_eq h, vi_eq h]
    rfl
  exact funext fun i => key i

end

end Cert.Equation

end
-- ==== Proof.lean ====
/-
  THE CLAIM. The kernel runs without fault from every memory, keeps its arguments and leaves every semaphore counter at
  zero, at the machine's floats and over the extended reals; so does the reference over the extended reals; and there,
  from memories that agree on the arguments, the two end with equal results: the attention output, the new token's key
  and value codes, and the two scale vectors.
-/
module

public import proofs.«01_k».proof.Defs
public import proofs.«01_k».proof.Proof.Gen.Kernel
public import proofs.«01_k».proof.Proof.KernelBody
public import proofs.«01_k».proof.Proof.Gen.KernelIdeal
public import proofs.«01_k».proof.Proof.Gen.ReferenceIdeal.Value
public import proofs.«01_k».proof.Proof.Body
public import proofs.«01_k».proof.Proof.Equation
public import Idealize.ShloMosaic.Adequacy
public import Idealize.ShloMosaic.Init

@[expose] public section

noncomputable section

namespace Cert.Proof

open Idealize.ShloMosaic Idealize.SL.Sem

/-- The kernel and the reference end with equal results over the extended reals. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Val.resY m c, fun c => Cert.KernelIdeal.Val.resK m c,
    fun c => m ((c.tc : Thread Cert.KernelIdeal.nD Cert.KernelIdeal.τ).loc Cert.KernelIdeal.main_arg4),
    fun c => Cert.KernelIdeal.Val.resV m c,
    fun c => m ((c.tc : Thread Cert.KernelIdeal.nD Cert.KernelIdeal.τ).loc Cert.KernelIdeal.main_arg6), ?_, ?_⟩
  · refine (θ_run _ _ _).mono (fun r h c => ?_) (Cert.KernelIdeal.Val.run_values m g)
    obtain ⟨hY, hK, hV, h0, h1, h2, h3, h4, h5, h6⟩ := h c
    exact ⟨hY, hK, h4, hV, h6, h0, h1, h2, h3, h4, h5, h6⟩
  · refine (θ_run _ _ _).mono (fun r h c => ?_) (Cert.ReferenceIdeal.Val.run_values m' g')
    obtain ⟨hY, hK, hV, h0, h1, h2, h3, h4, h5, h6⟩ := h c
    have ha : Cert.Equation.Agree m m' c := hagree c
    exact ⟨hY.trans (Cert.Equation.resY_eq ha), hK.trans (Cert.Equation.resK_eq ha), h4.trans ha.2.2.2.2.1,
      hV.trans (Cert.Equation.resV_eq ha), h6.trans ha.2.2.2.2.2.2, h0, h1, h2, h3, h4, h5, h6⟩

theorem claim : Cert.Claim :=
  ⟨Cert.Kernel.Gen.facts, Cert.KernelIdeal.Gen.facts, Cert.ReferenceIdeal.Gen.facts,
    fun m g _ => Cert.Kernel.Val.frame m g, fun m g _ => Cert.KernelIdeal.Val.frame m g,
    fun m g _ => Cert.ReferenceIdeal.Gen.frame m g, trivial, algebraic⟩

end Cert.Proof

end
